-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x256 : Shape := ⟨3, ![4, 512, 256]⟩
abbrev S4x512x512 : Shape := ⟨3, ![4, 512, 512]⟩
abbrev S4x256x64 : Shape := ⟨3, ![4, 256, 64]⟩
abbrev S4x128x1 : Shape := ⟨3, ![4, 128, 1]⟩
abbrev S4x2x64 : Shape := ⟨3, ![4, 2, 64]⟩
abbrev S1x256x64 : Shape := ⟨3, ![1, 256, 64]⟩
abbrev S256x64 : Shape := ⟨2, ![256, 64]⟩
abbrev S1x512x256 : Shape := ⟨3, ![1, 512, 256]⟩
abbrev S1x512x512 : Shape := ⟨3, ![1, 512, 512]⟩
abbrev S512x256 : Shape := ⟨2, ![512, 256]⟩
abbrev S512x512 : Shape := ⟨2, ![512, 512]⟩
abbrev S512x64 : Shape := ⟨2, ![512, 64]⟩
abbrev S1x1x64 : Shape := ⟨3, ![1, 1, 64]⟩
abbrev S64 : Shape := ⟨1, ![64]⟩
abbrev S64x1 : Shape := ⟨2, ![64, 1]⟩
abbrev S512x1 : Shape := ⟨2, ![512, 1]⟩
abbrev S1x512 : Shape := ⟨2, ![1, 512]⟩
abbrev S512 : Shape := ⟨1, ![512]⟩

abbrev nBuf : Space → Nat
  | .hbm => 14
  | .vmem => 11
  | .smem => 0
  | _ => 0

abbrev bufTy : (tb : Table) → Fin (tcTables nBuf tb) → BufTy
  | .hbm, ⟨0, _⟩ => ⟨S4x512x256, .f32⟩
  | .hbm, ⟨1, _⟩ => ⟨S4x512x512, .f32⟩
  | .hbm, ⟨2, _⟩ => ⟨S4x256x64, .f32⟩
  | .hbm, ⟨3, _⟩ => ⟨S4x128x1, .f32⟩
  | .hbm, ⟨4, _⟩ => ⟨S4x2x64, .f32⟩
  | .hbm, ⟨5, _⟩ => ⟨S1x256x64, .f32⟩
  | .hbm, ⟨6, _⟩ => ⟨S256x64, .f32⟩
  | .hbm, ⟨7, _⟩ => ⟨S1x256x64, .f32⟩
  | .hbm, ⟨8, _⟩ => ⟨S256x64, .f32⟩
  | .hbm, ⟨9, _⟩ => ⟨S1x256x64, .f32⟩
  | .hbm, ⟨10, _⟩ => ⟨S256x64, .f32⟩
  | .hbm, ⟨11, _⟩ => ⟨S1x256x64, .f32⟩
  | .hbm, ⟨12, _⟩ => ⟨S256x64, .f32⟩
  | .hbm, ⟨13, _⟩ => ⟨S4x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x512, .f32⟩
  | .local _ .vmem, ⟨3, _⟩ => ⟨S1x512x512, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S4x2x64, .f32⟩
  | .local _ .vmem, ⟨9, _⟩ => ⟨S1x512x256, .f32⟩
  | .local _ .vmem, ⟨10, _⟩ => ⟨S1x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x512x256 : Shape := ⟨3, ![4, 512, 256]⟩
abbrev S4x512x512 : Shape := ⟨3, ![4, 512, 512]⟩
abbrev S4x256x64 : Shape := ⟨3, ![4, 256, 64]⟩
abbrev S4x128x1 : Shape := ⟨3, ![4, 128, 1]⟩
abbrev S1x256x64 : Shape := ⟨3, ![1, 256, 64]⟩
abbrev S256x64 : Shape := ⟨2, ![256, 64]⟩
abbrev S4x512x64 : Shape := ⟨3, ![4, 512, 64]⟩
abbrev S1x128x1 : Shape := ⟨3, ![1, 128, 1]⟩
abbrev S128x1 : Shape := ⟨2, ![128, 1]⟩
abbrev S64x1 : Shape := ⟨2, ![64, 1]⟩
abbrev S64 : Shape := ⟨1, ![64]⟩
abbrev S4x512 : Shape := ⟨2, ![4, 512]⟩
abbrev S4x512x1 : Shape := ⟨3, ![4, 512, 1]⟩
abbrev S4x1x512 : Shape := ⟨3, ![4, 1, 512]⟩
abbrev S_ : Shape := ⟨0, ![]⟩
abbrev S4x512x51 : Shape := ⟨3, ![4, 512, 51]⟩
abbrev S4x512x51x1 : Shape := ⟨4, ![4, 512, 51, 1]⟩
abbrev S1x1x1x512 : Shape := ⟨4, ![1, 1, 1, 512]⟩
abbrev S4x512x51x512 : Shape := ⟨4, ![4, 512, 51, 512]⟩

abbrev nBuf : Space → Nat
  | .hbm => 237
  | .vmem => 0
  | .smem => 0
  | _ => 0

abbrev hbmTy0_0 (i : Nat) : BufTy := match i % 128 with
  | 0 => ⟨S4x512x256, .f32⟩
  | 1 => ⟨S4x512x512, .f32⟩
  | 2 => ⟨S4x256x64, .f32⟩
  | 3 => ⟨S4x128x1, .f32⟩
  | 4 => ⟨S1x256x64, .f32⟩
  | 5 => ⟨S256x64, .f32⟩
  | 6 => ⟨S4x512x64, .f32⟩
  | 7 => ⟨S1x128x1, .f32⟩
  | 8 => ⟨S128x1, .f32⟩
  | 9 => ⟨S64x1, .f32⟩
  | 10 => ⟨S64, .f32⟩
  | 11 => ⟨S1x128x1, .f32⟩
  | 12 => ⟨S128x1, .f32⟩
  | 13 => ⟨S64x1, .f32⟩
  | 14 => ⟨S64, .f32⟩
  | 15 => ⟨S4x512, .f32⟩
  | 16 => ⟨S4x512, .f32⟩
  | 17 => ⟨S4x512x1, .f32⟩
  | 18 => ⟨S4x1x512, .f32⟩
  | 19 => ⟨S4x512x512, .f32⟩
  | 20 => ⟨S4x512x512, .f32⟩
  | 21 => ⟨S4x512x512, .f32⟩
  | 22 => ⟨S_, .f32⟩
  | 23 => ⟨S_, .f32⟩
  | 24 => ⟨S4x512x512, .f32⟩
  | 25 => ⟨S4x512x512, .i1⟩
  | 26 => ⟨S_, .f32⟩
  | 27 => ⟨S4x512x512, .f32⟩
  | 28 => ⟨S4x512x512, .f32⟩
  | 29 => ⟨S4x512x512, .f32⟩
  | 30 => ⟨S4x512x51, .f32⟩
  | 31 => ⟨S4x512x51, .i32⟩
  | 32 => ⟨S4x512x51x1, .i32⟩
  | 33 => ⟨S1x1x1x512, .i32⟩
  | 34 => ⟨S4x512x51x512, .i32⟩
  | 35 => ⟨S4x512x51x512, .i32⟩
  | 36 => ⟨S4x512x51x512, .i1⟩
  | 37 => ⟨S4x512x51x512, .f32⟩
  | 38 => ⟨S_, .f32⟩
  | 39 => ⟨S4x512x512, .f32⟩
  | 40 => ⟨S_, .f32⟩
  | 41 => ⟨S4x512x512, .f32⟩
  | 42 => ⟨S4x512x512, .i1⟩
  | 43 => ⟨S_, .f32⟩
  | 44 => ⟨S4x512x512, .f32⟩
  | 45 => ⟨S4x512x512, .f32⟩
  | 46 => ⟨S_, .f32⟩
  | 47 => ⟨S4x512, .f32⟩
  | 48 => ⟨S_, .f32⟩
  | 49 => ⟨S4x512, .f32⟩
  | 50 => ⟨S4x512, .f32⟩
  | 51 => ⟨S4x512x1, .f32⟩
  | 52 => ⟨S4x512x512, .f32⟩
  | 53 => ⟨S4x512x512, .f32⟩
  | 54 => ⟨S4x512x512, .f32⟩
  | 55 => ⟨S_, .f32⟩
  | 56 => ⟨S4x512, .f32⟩
  | 57 => ⟨S4x512x1, .f32⟩
  | 58 => ⟨S4x512x512, .f32⟩
  | 59 => ⟨S4x512x512, .f32⟩
  | 60 => ⟨S4x512x512, .f32⟩
  | 61 => ⟨S4x512x64, .f32⟩
  | 62 => ⟨S1x256x64, .f32⟩
  | 63 => ⟨S256x64, .f32⟩
  | 64 => ⟨S4x512x64, .f32⟩
  | 65 => ⟨S1x128x1, .f32⟩
  | 66 => ⟨S128x1, .f32⟩
  | 67 => ⟨S64x1, .f32⟩
  | 68 => ⟨S64, .f32⟩
  | 69 => ⟨S1x128x1, .f32⟩
  | 70 => ⟨S128x1, .f32⟩
  | 71 => ⟨S64x1, .f32⟩
  | 72 => ⟨S64, .f32⟩
  | 73 => ⟨S4x512, .f32⟩
  | 74 => ⟨S4x512, .f32⟩
  | 75 => ⟨S4x512x1, .f32⟩
  | 76 => ⟨S4x1x512, .f32⟩
  | 77 => ⟨S4x512x512, .f32⟩
  | 78 => ⟨S4x512x512, .f32⟩
  | 79 => ⟨S4x512x512, .f32⟩
  | 80 => ⟨S_, .f32⟩
  | 81 => ⟨S_, .f32⟩
  | 82 => ⟨S4x512x512, .f32⟩
  | 83 => ⟨S4x512x512, .i1⟩
  | 84 => ⟨S_, .f32⟩
  | 85 => ⟨S4x512x512, .f32⟩
  | 86 => ⟨S4x512x512, .f32⟩
  | 87 => ⟨S4x512x512, .f32⟩
  | 88 => ⟨S4x512x51, .f32⟩
  | 89 => ⟨S4x512x51, .i32⟩
  | 90 => ⟨S4x512x51x1, .i32⟩
  | 91 => ⟨S1x1x1x512, .i32⟩
  | 92 => ⟨S4x512x51x512, .i32⟩
  | 93 => ⟨S4x512x51x512, .i32⟩
  | 94 => ⟨S4x512x51x512, .i1⟩
  | 95 => ⟨S4x512x51x512, .f32⟩
  | 96 => ⟨S_, .f32⟩
  | 97 => ⟨S4x512x512, .f32⟩
  | 98 => ⟨S_, .f32⟩
  | 99 => ⟨S4x512x512, .f32⟩
  | 100 => ⟨S4x512x512, .i1⟩
  | 101 => ⟨S_, .f32⟩
  | 102 => ⟨S4x512x512, .f32⟩
  | 103 => ⟨S4x512x512, .f32⟩
  | 104 => ⟨S_, .f32⟩
  | 105 => ⟨S4x512, .f32⟩
  | 106 => ⟨S_, .f32⟩
  | 107 => ⟨S4x512, .f32⟩
  | 108 => ⟨S4x512, .f32⟩
  | 109 => ⟨S4x512x1, .f32⟩
  | 110 => ⟨S4x512x512, .f32⟩
  | 111 => ⟨S4x512x512, .f32⟩
  | 112 => ⟨S4x512x512, .f32⟩
  | 113 => ⟨S_, .f32⟩
  | 114 => ⟨S4x512, .f32⟩
  | 115 => ⟨S4x512x1, .f32⟩
  | 116 => ⟨S4x512x512, .f32⟩
  | 117 => ⟨S4x512x512, .f32⟩
  | 118 => ⟨S4x512x512, .f32⟩
  | 119 => ⟨S4x512x64, .f32⟩
  | 120 => ⟨S1x256x64, .f32⟩
  | 121 => ⟨S256x64, .f32⟩
  | 122 => ⟨S4x512x64, .f32⟩
  | 123 => ⟨S1x128x1, .f32⟩
  | 124 => ⟨S128x1, .f32⟩
  | 125 => ⟨S64x1, .f32⟩
  | 126 => ⟨S64, .f32⟩
  | 127 => ⟨S1x128x1, .f32⟩
  | _ => ⟨S4x512x256, .f32⟩

abbrev hbmTy0_1 (i : Nat) : BufTy := match i % 128 with
  | 0 => ⟨S128x1, .f32⟩
  | 1 => ⟨S64x1, .f32⟩
  | 2 => ⟨S64, .f32⟩
  | 3 => ⟨S4x512, .f32⟩
  | 4 => ⟨S4x512, .f32⟩
  | 5 => ⟨S4x512x1, .f32⟩
  | 6 => ⟨S4x1x512, .f32⟩
  | 7 => ⟨S4x512x512, .f32⟩
  | 8 => ⟨S4x512x512, .f32⟩
  | 9 => ⟨S4x512x512, .f32⟩
  | 10 => ⟨S_, .f32⟩
  | 11 => ⟨S_, .f32⟩
  | 12 => ⟨S4x512x512, .f32⟩
  | 13 => ⟨S4x512x512, .i1⟩
  | 14 => ⟨S_, .f32⟩
  | 15 => ⟨S4x512x512, .f32⟩
  | 16 => ⟨S4x512x512, .f32⟩
  | 17 => ⟨S4x512x512, .f32⟩
  | 18 => ⟨S4x512x51, .f32⟩
  | 19 => ⟨S4x512x51, .i32⟩
  | 20 => ⟨S4x512x51x1, .i32⟩
  | 21 => ⟨S1x1x1x512, .i32⟩
  | 22 => ⟨S4x512x51x512, .i32⟩
  | 23 => ⟨S4x512x51x512, .i32⟩
  | 24 => ⟨S4x512x51x512, .i1⟩
  | 25 => ⟨S4x512x51x512, .f32⟩
  | 26 => ⟨S_, .f32⟩
  | 27 => ⟨S4x512x512, .f32⟩
  | 28 => ⟨S_, .f32⟩
  | 29 => ⟨S4x512x512, .f32⟩
  | 30 => ⟨S4x512x512, .i1⟩
  | 31 => ⟨S_, .f32⟩
  | 32 => ⟨S4x512x512, .f32⟩
  | 33 => ⟨S4x512x512, .f32⟩
  | 34 => ⟨S_, .f32⟩
  | 35 => ⟨S4x512, .f32⟩
  | 36 => ⟨S_, .f32⟩
  | 37 => ⟨S4x512, .f32⟩
  | 38 => ⟨S4x512, .f32⟩
  | 39 => ⟨S4x512x1, .f32⟩
  | 40 => ⟨S4x512x512, .f32⟩
  | 41 => ⟨S4x512x512, .f32⟩
  | 42 => ⟨S4x512x512, .f32⟩
  | 43 => ⟨S_, .f32⟩
  | 44 => ⟨S4x512, .f32⟩
  | 45 => ⟨S4x512x1, .f32⟩
  | 46 => ⟨S4x512x512, .f32⟩
  | 47 => ⟨S4x512x512, .f32⟩
  | 48 => ⟨S4x512x512, .f32⟩
  | 49 => ⟨S4x512x64, .f32⟩
  | 50 => ⟨S1x256x64, .f32⟩
  | 51 => ⟨S256x64, .f32⟩
  | 52 => ⟨S4x512x64, .f32⟩
  | 53 => ⟨S1x128x1, .f32⟩
  | 54 => ⟨S128x1, .f32⟩
  | 55 => ⟨S64x1, .f32⟩
  | 56 => ⟨S64, .f32⟩
  | 57 => ⟨S1x128x1, .f32⟩
  | 58 => ⟨S128x1, .f32⟩
  | 59 => ⟨S64x1, .f32⟩
  | 60 => ⟨S64, .f32⟩
  | 61 => ⟨S4x512, .f32⟩
  | 62 => ⟨S4x512, .f32⟩
  | 63 => ⟨S4x512x1, .f32⟩
  | 64 => ⟨S4x1x512, .f32⟩
  | 65 => ⟨S4x512x512, .f32⟩
  | 66 => ⟨S4x512x512, .f32⟩
  | 67 => ⟨S4x512x512, .f32⟩
  | 68 => ⟨S_, .f32⟩
  | 69 => ⟨S_, .f32⟩
  | 70 => ⟨S4x512x512, .f32⟩
  | 71 => ⟨S4x512x512, .i1⟩
  | 72 => ⟨S_, .f32⟩
  | 73 => ⟨S4x512x512, .f32⟩
  | 74 => ⟨S4x512x512, .f32⟩
  | 75 => ⟨S4x512x512, .f32⟩
  | 76 => ⟨S4x512x51, .f32⟩
  | 77 => ⟨S4x512x51, .i32⟩
  | 78 => ⟨S4x512x51x1, .i32⟩
  | 79 => ⟨S1x1x1x512, .i32⟩
  | 80 => ⟨S4x512x51x512, .i32⟩
  | 81 => ⟨S4x512x51x512, .i32⟩
  | 82 => ⟨S4x512x51x512, .i1⟩
  | 83 => ⟨S4x512x51x512, .f32⟩
  | 84 => ⟨S_, .f32⟩
  | 85 => ⟨S4x512x512, .f32⟩
  | 86 => ⟨S_, .f32⟩
  | 87 => ⟨S4x512x512, .f32⟩
  | 88 => ⟨S4x512x512, .i1⟩
  | 89 => ⟨S_, .f32⟩
  | 90 => ⟨S4x512x512, .f32⟩
  | 91 => ⟨S4x512x512, .f32⟩
  | 92 => ⟨S_, .f32⟩
  | 93 => ⟨S4x512, .f32⟩
  | 94 => ⟨S_, .f32⟩
  | 95 => ⟨S4x512, .f32⟩
  | 96 => ⟨S4x512, .f32⟩
  | 97 => ⟨S4x512x1, .f32⟩
  | 98 => ⟨S4x512x512, .f32⟩
  | 99 => ⟨S4x512x512, .f32⟩
  | 100 => ⟨S4x512x512, .f32⟩
  | 101 => ⟨S_, .f32⟩
  | 102 => ⟨S4x512, .f32⟩
  | 103 => ⟨S4x512x1, .f32⟩
  | 104 => ⟨S4x512x512, .f32⟩
  | 105 => ⟨S4x512x512, .f32⟩
  | 106 => ⟨S4x512x512, .f32⟩
  | 107 => ⟨S4x512x64, .f32⟩
  | 108 => ⟨S4x512x256, .f32⟩
  | _ => ⟨S4x512x256, .f32⟩

abbrev hbmTy (i : Nat) : BufTy := match i / 128 with
  | 0 => hbmTy0_0 i
  | 1 => hbmTy0_1 i
  | _ => ⟨S4x512x256, .f32⟩

abbrev bufTy : (tb : Table) → Fin (tcTables nBuf tb) → BufTy
  | .hbm, ⟨i, _⟩ => hbmTy i
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v18 : Ref sig .tc := ⟨.hbm, 29, rfl⟩
abbrev main_values : Ref sig .tc := ⟨.hbm, 30, rfl⟩
abbrev main_indices : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_call2_v0 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_6 : Ref sig .tc := ⟨.hbm, 80, rfl⟩
abbrev main_call3_cst : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_v55 : Ref sig .tc := ⟨.hbm, 87, rfl⟩
abbrev main_values_7 : Ref sig .tc := ⟨.hbm, 88, rfl⟩
abbrev main_indices_8 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_v56 : Ref sig .tc := ⟨.hbm, 95, rfl⟩
abbrev main_cst_9 : Ref sig .tc := ⟨.hbm, 96, rfl⟩
abbrev main_v57 : Ref sig .tc := ⟨.hbm, 97, rfl⟩
abbrev main_cst_10 : Ref sig .tc := ⟨.hbm, 98, rfl⟩
abbrev main_v58 : Ref sig .tc := ⟨.hbm, 99, rfl⟩
abbrev main_v59 : Ref sig .tc := ⟨.hbm, 100, rfl⟩
abbrev main_cst_11 : Ref sig .tc := ⟨.hbm, 101, rfl⟩
abbrev main_call5_v0 : Ref sig .tc := ⟨.hbm, 102, rfl⟩
abbrev main_v60 : Ref sig .tc := ⟨.hbm, 103, rfl⟩
abbrev main_cst_12 : Ref sig .tc := ⟨.hbm, 104, rfl⟩
abbrev main_v61 : Ref sig .tc := ⟨.hbm, 105, rfl⟩
abbrev main_cst_13 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_14 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_15 : Ref sig .tc := ⟨.hbm, 138, rfl⟩
abbrev main_call6_cst : Ref sig .tc := ⟨.hbm, 139, rfl⟩
abbrev main_call6_v0 : Ref sig .tc := ⟨.hbm, 140, rfl⟩
abbrev main_call6_v1 : Ref sig .tc := ⟨.hbm, 141, rfl⟩
abbrev main_call6_v2 : Ref sig .tc := ⟨.hbm, 142, rfl⟩
abbrev main_call6_v3 : Ref sig .tc := ⟨.hbm, 143, rfl⟩
abbrev main_call6_v4 : Ref sig .tc := ⟨.hbm, 144, rfl⟩
abbrev main_v92 : Ref sig .tc := ⟨.hbm, 145, rfl⟩
abbrev main_values_16 : Ref sig .tc := ⟨.hbm, 146, rfl⟩
abbrev main_indices_17 : Ref sig .tc := ⟨.hbm, 147, rfl⟩
abbrev main_call7_v0 : Ref sig .tc := ⟨.hbm, 148, rfl⟩
abbrev main_call7_v1 : Ref sig .tc := ⟨.hbm, 149, rfl⟩
abbrev main_call7_v2 : Ref sig .tc := ⟨.hbm, 150, rfl⟩
abbrev main_call7_v3 : Ref sig .tc := ⟨.hbm, 151, rfl⟩
abbrev main_call7_v4 : Ref sig .tc := ⟨.hbm, 152, rfl⟩
abbrev main_v93 : Ref sig .tc := ⟨.hbm, 153, rfl⟩
abbrev main_cst_18 : Ref sig .tc := ⟨.hbm, 154, rfl⟩
abbrev main_v94 : Ref sig .tc := ⟨.hbm, 155, rfl⟩
abbrev main_cst_19 : Ref sig .tc := ⟨.hbm, 156, rfl⟩
abbrev main_v95 : Ref sig .tc := ⟨.hbm, 157, rfl⟩
abbrev main_v96 : Ref sig .tc := ⟨.hbm, 158, rfl⟩
abbrev main_cst_20 : Ref sig .tc := ⟨.hbm, 159, rfl⟩
abbrev main_call8_v0 : Ref sig .tc := ⟨.hbm, 160, rfl⟩
abbrev main_v97 : Ref sig .tc := ⟨.hbm, 161, rfl⟩
abbrev main_cst_21 : Ref sig .tc := ⟨.hbm, 162, rfl⟩
abbrev main_v98 : Ref sig .tc := ⟨.hbm, 163, rfl⟩
abbrev main_cst_22 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_cst_23 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_cst_24 : Ref sig .tc := ⟨.hbm, 196, rfl⟩
abbrev main_call9_cst : Ref sig .tc := ⟨.hbm, 197, rfl⟩
abbrev main_call9_v0 : Ref sig .tc := ⟨.hbm, 198, rfl⟩
abbrev main_call9_v1 : Ref sig .tc := ⟨.hbm, 199, rfl⟩
abbrev main_call9_v2 : Ref sig .tc := ⟨.hbm, 200, rfl⟩
abbrev main_call9_v3 : Ref sig .tc := ⟨.hbm, 201, rfl⟩
abbrev main_call9_v4 : Ref sig .tc := ⟨.hbm, 202, rfl⟩
abbrev main_v129 : Ref sig .tc := ⟨.hbm, 203, rfl⟩
abbrev main_values_25 : Ref sig .tc := ⟨.hbm, 204, rfl⟩
abbrev main_indices_26 : Ref sig .tc := ⟨.hbm, 205, rfl⟩
abbrev main_call10_v0 : Ref sig .tc := ⟨.hbm, 206, rfl⟩
abbrev main_call10_v1 : Ref sig .tc := ⟨.hbm, 207, rfl⟩
abbrev main_call10_v2 : Ref sig .tc := ⟨.hbm, 208, rfl⟩
abbrev main_call10_v3 : Ref sig .tc := ⟨.hbm, 209, rfl⟩
abbrev main_call10_v4 : Ref sig .tc := ⟨.hbm, 210, rfl⟩
abbrev main_v130 : Ref sig .tc := ⟨.hbm, 211, rfl⟩
abbrev main_cst_27 : Ref sig .tc := ⟨.hbm, 212, rfl⟩
abbrev main_v131 : Ref sig .tc := ⟨.hbm, 213, rfl⟩
abbrev main_cst_28 : Ref sig .tc := ⟨.hbm, 214, rfl⟩
abbrev main_v132 : Ref sig .tc := ⟨.hbm, 215, rfl⟩
abbrev main_v133 : Ref sig .tc := ⟨.hbm, 216, rfl⟩
abbrev main_cst_29 : Ref sig .tc := ⟨.hbm, 217, rfl⟩
abbrev main_call11_v0 : Ref sig .tc := ⟨.hbm, 218, rfl⟩
abbrev main_v134 : Ref sig .tc := ⟨.hbm, 219, rfl⟩
abbrev main_cst_30 : Ref sig .tc := ⟨.hbm, 220, rfl⟩
abbrev main_v135 : Ref sig .tc := ⟨.hbm, 221, rfl⟩
abbrev main_cst_31 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_cst_32 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩

abbrev nD : Nat := 1
abbrev τ : Topo := Topo.v7x

variable {F : FTy → Type} [FloatOps F]
-- ==== Proof.Order.lean ====
/-
  The order that picks an attention row's neighbours. A position is AHEAD of another when its key is larger, or the keys
  are equal and it comes first; a position's RANK is how many positions are ahead of it. A stable sort by "larger first"
  puts the position of rank `k` at place `k`, so the positions it puts at the first `m` places are those of rank below
  `m`. Nothing here mentions the programs.
-/
module

public import Idealize.ShloMosaic.Lib.SortPrefix
public import Mathlib.Data.EReal.Basic

@[expose] public section

namespace Gat

open Idealize.ShloMosaic

variable {n : ℕ}

/-- Position `k` is ahead of position `j`: its key is larger, or the keys are equal and `k` comes first. -/
def Ahead (key : Fin n → EReal) (k j : Fin n) : Prop := key j < key k ∨ key k = key j ∧ k < j

open Classical in
/-- How many positions are ahead of `j`. -/
noncomputable def rank (key : Fin n → EReal) (j : Fin n) : ℕ := (Finset.univ.filter fun k => Ahead key k j).card

/-- "Larger key first", as the comparator of a sort. -/
noncomputable def larger (key : Fin n → EReal) (k j : Fin n) : Bool := decide (key j < key k)

open Classical in
/-- "Ahead", as the comparator of a sort. -/
noncomputable def aheadB (key : Fin n → EReal) (k j : Fin n) : Bool := decide (Ahead key k j)

/-- "Ahead" orders every two different positions one way. -/
theorem aheadB_total (key : Fin n → EReal) : StrictTotalBefore (aheadB key) := by
  have h := StrictTotalBefore.of_key_then_position (fun a b : EReal => decide (b < a)) key (by simp)
    (fun a b c hab hbc => by simp only [decide_eq_true_eq] at *; exact hbc.trans hab)
    (fun a b => by simp only [decide_eq_true_eq]; rcases lt_trichotomy a b with h | h | h <;> simp [h])
  have e : aheadB key = fun k k' : Fin n =>
      decide (key k' < key k) || (decide (key k = key k') && decide (k < k')) := by
    funext k k'
    by_cases h₁ : key k' < key k <;> by_cases h₂ : key k = key k' <;> by_cases h₃ : k < k' <;>
      simp [aheadB, Ahead, h₁, h₂, h₃]
  rw [e]; exact h

/-- On a list of increasing positions the stable sort by "larger first" is the sort by "ahead": an inserted position comes
    before all those already placed, so the clause on equal keys is never met. -/
theorem stableSort_larger (key : Fin n → EReal) (l : List (Fin n)) (hl : l.Pairwise (· < ·)) :
    stableSort (larger key) l = stableSort (aheadB key) l := by
  induction l with
  | nil => rfl
  | cons a l ih =>
    rw [List.pairwise_cons] at hl
    unfold stableSort
    rw [ih hl.2]
    refine insertBefore_congr _ _ a _ fun b hb => ?_
    have hab : a < b := hl.1 b ((perm_stableSort (aheadB key) l).mem_iff.mp hb)
    simp only [larger, aheadB, Ahead]
    by_cases h : key a < key b <;> simp [h, not_lt_of_gt hab]

/-- The two comparators give the whole range of positions one sorting permutation. -/
theorem sortedFrom_larger (key : Fin n → EReal) : sortedFrom (larger key) = sortedFrom (aheadB key) := by
  funext k
  unfold sortedFrom
  have e : sortPositions n (larger key) = sortPositions n (aheadB key) :=
    stableSort_larger key _ (List.pairwise_lt_finRange n)
  rw [List.get_of_eq e]
  rfl

/-- Of two places of the sort, the source of the earlier is ahead of the source of the later. -/
theorem ahead_sortedFrom_iff (key : Fin n → EReal) (i k : Fin n) :
    Ahead key (sortedFrom (larger key) i) (sortedFrom (larger key) k) ↔ i < k := by
  have hB := aheadB_total key
  rw [sortedFrom_larger]
  have sorted : ∀ i k : Fin n, i < k → aheadB key (sortedFrom (aheadB key) k) (sortedFrom (aheadB key) i) = false :=
    fun i k => sortedFrom_noInversion _ _ hB.asymm (fun _ _ h => h) hB.negTrans i k
  constructor
  · intro h
    have h' : aheadB key (sortedFrom (aheadB key) i) (sortedFrom (aheadB key) k) = true := by
      simpa [aheadB] using h
    rcases lt_trichotomy i k with hik | hik | hik
    · exact hik
    · subst hik; rw [hB.irrefl] at h'; simp at h'
    · rw [sorted k i hik] at h'; simp at h'
  · intro hik
    rcases hB.total _ _ ((sortedFrom_injective (aheadB key)).ne hik.ne) with h | h
    · simpa [aheadB] using h
    · rw [sorted i k hik] at h; simp at h

/-- The position the sort puts at place `k` has rank `k`. -/
theorem rank_sortedFrom (key : Fin n → EReal) (k : Fin n) : rank key (sortedFrom (larger key) k) = k.val := by
  classical
  have e : (Finset.univ.filter fun j => Ahead key j (sortedFrom (larger key) k))
      = (Finset.Iio k).image (sortedFrom (larger key)) := by
    ext j
    obtain ⟨i, rfl⟩ := sortedFrom_surjective (larger key) j
    simp only [Finset.mem_filter, Finset.mem_univ, true_and, ahead_sortedFrom_iff, Finset.mem_image, Finset.mem_Iio]
    exact ⟨fun h => ⟨i, h, rfl⟩, fun ⟨i', h, e⟩ => sortedFrom_injective (larger key) e ▸ h⟩
  unfold rank
  rw [Finset.filter_congr_decidable, e, Finset.card_image_of_injective _ (sortedFrom_injective (larger key)), Fin.card_Iio]

/-- The positions at the first `m` places are those of rank below `m`. -/
theorem exists_place_iff (key : Fin n → EReal) (m : ℕ) (j : Fin n) :
    (∃ k : Fin n, k.val < m ∧ sortedFrom (larger key) k = j) ↔ rank key j < m := by
  constructor
  · rintro ⟨k, hk, rfl⟩
    rwa [rank_sortedFrom]
  · intro h
    obtain ⟨k, rfl⟩ := sortedFrom_surjective (larger key) j
    exact ⟨k, by rwa [rank_sortedFrom] at h, rfl⟩

/-- Where there are positions at all, one of rank zero has the largest key. -/
theorem exists_rank_zero (key : Fin n → EReal) (hn : 0 < n) : ∃ j, rank key j = 0 ∧ ∀ k, key k ≤ key j := by
  refine ⟨sortedFrom (larger key) ⟨0, hn⟩, rank_sortedFrom key _, fun k => ?_⟩
  obtain ⟨i, rfl⟩ := sortedFrom_surjective (larger key) k
  by_contra h
  have := (ahead_sortedFrom_iff key i ⟨0, hn⟩).mp (Or.inl (not_le.mp h))
  exact absurd this (by simp [Fin.lt_def])

/-- A strictly increasing function of the key leaves every rank as it is. -/
theorem rank_comp (f : EReal → EReal) (hf : StrictMono f) (key : Fin n → EReal) (j : Fin n) :
    rank (fun k => f (key k)) j = rank key j := by
  classical
  have h : ∀ k, Ahead (fun k => f (key k)) k j ↔ Ahead key k j := fun k => by
    simp only [Ahead, hf.lt_iff_lt, hf.injective.eq_iff]
  unfold rank
  exact congrArg Finset.card (Finset.filter_congr fun k _ => h k)

end Gat
-- ==== Proof.Row.lean ====
/-
  One attention row over the extended reals, as the kernel computes it and as the reference does, and that the two agree
  whatever the numbers are. The kernel ranks the neighbours by the target's score alone and subtracts the largest kept
  score, dropped neighbours counting as a large negative number; the reference ranks by the row's own scores and puts −∞
  at the dropped ones. Nothing here mentions the programs.
-/
module

public import proofs.«01_k».proof.Proof.Order
public import Idealize.ShloMosaic.PureOps.Ideal

@[expose] public section

namespace Gat

open Idealize.ShloMosaic

noncomputable section

/-- The leaky rectifier with slope `c` below zero. -/
def leaky (c x : EReal) : EReal := if 0 ≤ x then x else c * x

/-- The rectifier keeps `<` for a positive real slope. -/
theorem leaky_strictMono {c : ℝ} (hc : 0 < c) : StrictMono (leaky (c : EReal)) := by
  intro x y hxy
  unfold leaky
  by_cases hx : 0 ≤ x
  · rw [if_pos hx, if_pos (hx.trans hxy.le)]; exact hxy
  · rw [if_neg hx]
    have hx' := not_le.mp hx
    have hneg : (c : EReal) * x < 0 := by
      induction x with
      | bot => rw [EReal.coe_mul_bot_of_pos hc]; exact EReal.bot_lt_zero
      | coe x => exact_mod_cast mul_neg_of_pos_of_neg hc (by exact_mod_cast hx')
      | top => exact absurd hx' (by simp)
    by_cases hy : 0 ≤ y
    · rw [if_pos hy]; exact hneg.trans_le hy
    · rw [if_neg hy]
      induction y with
      | bot => exact absurd hxy (by simp)
      | top => exact absurd hy (by simp)
      | coe y =>
        induction x with
        | bot => rw [EReal.coe_mul_bot_of_pos hc, ← EReal.coe_mul]; exact EReal.bot_lt_coe _
        | coe x =>
          have : x < y := by exact_mod_cast hxy
          exact_mod_cast mul_lt_mul_of_pos_left this hc
        | top => exact absurd hxy (by simp)

/-- The rectifier keeps −∞, for a positive real slope. -/
theorem leaky_bot {c : ℝ} (hc : 0 < c) : leaky (c : EReal) ⊥ = ⊥ := by
  rw [leaky, if_neg (by simp), EReal.coe_mul_bot_of_pos hc]

/-- The rectifier keeps +∞. -/
theorem leaky_top (c : EReal) : leaky c ⊤ = ⊤ := by rw [leaky, if_pos le_top]

/-- Adding a real number keeps `<`. -/
theorem coe_add_strictMono (s : ℝ) : StrictMono fun t : EReal => (s : EReal) + t :=
  fun _ _ h => EReal.add_lt_add_left_coe h s

variable {n : ℕ}

/-- A row's scores: the rectified sum of the source's number and each target's. -/
def score (c s : EReal) (t : Fin n → EReal) (j : Fin n) : EReal := leaky c (s + t j)

open Classical in
/-- A kept position's weight: the exponential of its score less `m`; a dropped position's weight is zero. -/
def weight (keep : Fin n → Prop) (e : Fin n → EReal) (m : EReal) (j : Fin n) : EReal :=
  if keep j then Ideal.exp (e j - m) else 0

/-- A position's share: its weight over the row's total. -/
def share (keep : Fin n → Prop) (e : Fin n → EReal) (m : EReal) (j : Fin n) : EReal :=
  Ideal.div (weight keep e m j) (∑ j', weight keep e m j')

open Classical in
/-- The largest score of a row, a dropped position counting as `low`. -/
def rowMax (keep : Fin n → Prop) (e : Fin n → EReal) (low : EReal) : EReal :=
  Finset.univ.fold max ⊥ fun j => if keep j then e j else low

/-- The kernel's row: kept are the `m` best targets; dropped scores count as `low` in the largest score. -/
def attK (m : ℕ) (c low s : EReal) (t : Fin n → EReal) : Fin n → EReal :=
  share (fun j => rank t j < m) (score c s t) (rowMax (fun j => rank t j < m) (score c s t) low)

/-- The reference's row: kept are the `m` best scores, and a dropped score counts as −∞. -/
def attR (m : ℕ) (c s : EReal) (t : Fin n → EReal) : Fin n → EReal :=
  share (fun j => rank (score c s t) j < m) (score c s t) (rowMax (fun j => rank (score c s t) j < m) (score c s t) ⊥)

/-- If every kept weight is zero, every share is 0/0, which is −∞. -/
theorem share_dead (keep : Fin n → Prop) (e : Fin n → EReal) (m : EReal)
    (h : ∀ j, Ideal.exp (e j - m) = 0) (j : Fin n) : share keep e m j = ⊥ := by
  have hw : ∀ j, weight keep e m j = 0 := fun j => by unfold weight; rw [h]; split <;> rfl
  unfold share
  simp [hw, Ideal.div]

/-- The real weight, before the shift, of a score that is not +∞. -/
def raw (keep : Fin n → Prop) [DecidablePred keep] (e : Fin n → EReal) (j : Fin n) : ℝ :=
  if keep j ∧ e j ≠ ⊥ then Real.exp (e j).toReal else 0

/-- Below +∞ and with a real shift, a weight is the real one times the shift's factor. -/
theorem weight_eq_raw (keep : Fin n → Prop) [DecidablePred keep] (e : Fin n → EReal) (m : ℝ) (he : ∀ j, e j ≠ ⊤)
    (j : Fin n) : weight keep e m j = ((raw keep e j * Real.exp (-m) : ℝ) : EReal) := by
  unfold weight raw
  by_cases hk : keep j
  · rw [if_pos hk]
    have ht := he j
    induction hx : e j with
    | bot => simp [hk, Ideal.exp_bot]
    | top => exact absurd hx ht
    | coe x =>
      rw [if_pos ⟨hk, by simp⟩, EReal.toReal_coe, ← EReal.coe_sub, Ideal.exp_coe, ← Real.exp_add, sub_eq_add_neg]
  · rw [if_neg hk]; simp [hk]

/-- Below +∞, with a real shift and some kept real score, the shares do not depend on the shift: each is a quotient of
    real weights. -/
theorem share_eq_raw (keep : Fin n → Prop) [DecidablePred keep] (e : Fin n → EReal) (m : ℝ) (he : ∀ j, e j ≠ ⊤)
    (j₀ : Fin n) (hk : keep j₀) (hj₀ : e j₀ ≠ ⊥) (j : Fin n) :
    share keep e m j = ((raw keep e j / ∑ j', raw keep e j' : ℝ) : EReal) := by
  have hnn : ∀ j, 0 ≤ raw keep e j := fun j => by unfold raw; split <;> positivity
  have hpos : 0 < ∑ j', raw keep e j' :=
    Finset.sum_pos' (fun j _ => hnn j) ⟨j₀, Finset.mem_univ _, by unfold raw; rw [if_pos ⟨hk, hj₀⟩]; positivity⟩
  have hsum : ∑ j', weight keep e m j' = (((∑ j', raw keep e j') * Real.exp (-m) : ℝ) : EReal) := by
    rw [Finset.sum_mul, Finset.sum_congr rfl fun j' _ => weight_eq_raw keep e m he j']
    exact (map_sum (⟨⟨Real.toEReal, EReal.coe_zero⟩, EReal.coe_add⟩ : ℝ →+ EReal) _ _).symm
  have hE := Real.exp_pos (-m)
  unfold share
  rw [hsum, weight_eq_raw keep e m he, Ideal.div_coe (by positivity), ← EReal.coe_mul]
  congr 1
  field_simp

/-- A row's largest score lies between its kept best score and the larger of that and `low`. -/
theorem rowMax_bounds (keep : Fin n → Prop) (e : Fin n → EReal) (low : EReal) (j₀ : Fin n) (hk : keep j₀)
    (hmax : ∀ j, e j ≤ e j₀) : e j₀ ≤ rowMax keep e low ∧ rowMax keep e low ≤ max (e j₀) low := by
  classical
  unfold rowMax
  constructor
  · refine Finset.le_fold_max (e j₀) |>.mpr (Or.inr ⟨j₀, Finset.mem_univ _, ?_⟩)
    rw [if_pos hk]
  · refine Finset.fold_max_le (max (e j₀) low) |>.mpr ⟨bot_le, fun j _ => ?_⟩
    split
    · exact (hmax j).trans (le_max_left _ _)
    · exact le_max_right _ _

/-- A row whose best score is kept: its shares are all −∞ where that score is infinite, and otherwise the quotients of
    real weights, whatever number below +∞ the dropped scores count as. -/
theorem share_rowMax (keep : Fin n → Prop) [DecidablePred keep] (e : Fin n → EReal) (low : EReal) (hlow : low ≠ ⊤)
    (j₀ : Fin n) (hk : keep j₀) (hmax : ∀ j, e j ≤ e j₀) (j : Fin n) :
    share keep e (rowMax keep e low) j
      = if e j₀ = ⊤ ∨ e j₀ = ⊥ then ⊥ else ((raw keep e j / ∑ j', raw keep e j' : ℝ) : EReal) := by
  obtain ⟨h₁, h₂⟩ := rowMax_bounds keep e low j₀ hk hmax
  by_cases hT : e j₀ = ⊤
  · rw [if_pos (Or.inl hT)]
    rw [hT, top_le_iff] at h₁
    exact share_dead keep e _ (fun j => by rw [h₁, sub_eq_add_neg, EReal.neg_top, EReal.add_bot, Ideal.exp_bot]) j
  by_cases hB : e j₀ = ⊥
  · rw [if_pos (Or.inr hB)]
    have he : ∀ j, e j = ⊥ := fun j => le_bot_iff.mp (hB ▸ hmax j)
    exact share_dead keep e _ (fun j => by rw [he, sub_eq_add_neg, EReal.bot_add, Ideal.exp_bot]) j
  · rw [if_neg (by simp [hT, hB])]
    have hne : ∀ j, e j ≠ ⊤ := fun j h => hT (top_le_iff.mp (h ▸ hmax j))
    have hmt : rowMax keep e low ≠ ⊤ := fun h => by
      rw [h, top_le_iff] at h₂
      rcases max_choice (e j₀) low with h' | h' <;> rw [h'] at h₂
      · exact hT h₂
      · exact hlow h₂
    have hmb : rowMax keep e low ≠ ⊥ := fun h => hB (le_bot_iff.mp (h ▸ h₁))
    rw [← EReal.coe_toReal hmt hmb]
    exact share_eq_raw keep e _ hne j₀ hk hB j

/-- A rank is the sum over the positions of a one for a larger key and a one for an equal key earlier. -/
theorem sum_ahead (key : Fin n → EReal) (j : Fin n) [∀ k, Decidable (key j < key k)]
    [∀ k, Decidable (key k = key j ∧ k.val < j.val)] :
    ∑ k : Fin n, ((if key j < key k then (1 : EReal) else 0) + if key k = key j ∧ k.val < j.val then 1 else 0)
      = ((rank key j : ℝ) : EReal) := by
  classical
  have h : ∀ k : Fin n, ((if key j < key k then (1 : EReal) else 0) + if key k = key j ∧ k.val < j.val then 1 else 0)
      = (((if Ahead key k j then 1 else 0 : ℝ)) : EReal) := fun k => by
    by_cases h₁ : key j < key k
    · have h₂ : ¬(key k = key j ∧ k.val < j.val) := fun h => h₁.ne' h.1
      rw [if_pos h₁, if_neg h₂, if_pos (show Ahead key k j from Or.inl h₁)]; simp
    · by_cases h₂ : key k = key j ∧ k.val < j.val
      · rw [if_neg h₁, if_pos h₂, if_pos (show Ahead key k j from Or.inr h₂)]; simp
      · rw [if_neg h₁, if_neg h₂, if_neg (show ¬Ahead key k j from fun h => h.elim h₁ h₂)]; simp
  rw [Finset.sum_congr rfl fun k _ => h k]
  refine (map_sum (⟨⟨Real.toEReal, EReal.coe_zero⟩, EReal.coe_add⟩ : ℝ →+ EReal) _ _).symm.trans ?_
  show ((∑ k : Fin n, (if Ahead key k j then 1 else 0 : ℝ) : ℝ) : EReal) = _
  rw [Finset.sum_boole]
  rfl

/-- THE ROW LEMMA: the kernel's shares are the reference's, at any scores, for a positive real slope, any `low` below +∞
    and at least one kept position. -/
theorem attK_eq_attR {m : ℕ} (hm : 0 < m) (hn : 0 < n) {c : ℝ} (hc : 0 < c) {low : EReal} (hlow : low ≠ ⊤) (s : EReal)
    (t : Fin n → EReal) : attK m c low s t = attR m c s t := by
  classical
  funext j
  have hmono := (leaky_strictMono hc).monotone
  obtain ⟨a, ha, hat⟩ := exists_rank_zero t hn
  obtain ⟨b, hb, hbe⟩ := exists_rank_zero (score c s t) hn
  have hae : ∀ k, score c s t k ≤ score c s t a := fun k => hmono (add_le_add le_rfl (hat k))
  have hab : score c s t a = score c s t b := le_antisymm (hbe a) (hae b)
  unfold attK attR
  rw [share_rowMax (fun j => rank t j < m) (score c s t) low hlow a (by simpa [ha] using hm) hae j,
    share_rowMax (fun j => rank (score c s t) j < m) (score c s t) ⊥ bot_ne_top b (by simpa [hb] using hm) hbe j, hab]
  split
  · rfl
  · rename_i hfin
    have hs : s ≠ ⊥ := fun h => hfin (Or.inr (by rw [score, h, EReal.bot_add, leaky_bot hc]))
    have hs' : s ≠ ⊤ := fun h => by
      rcases eq_or_ne (t b) ⊥ with h' | h'
      · exact hfin (Or.inr (by rw [score, h', EReal.add_bot, leaky_bot hc]))
      · exact hfin (Or.inl (by rw [score, h, EReal.top_add_of_ne_bot h', leaky_top]))
    have hr : ∀ j, rank (score c s t) j = rank t j := fun j => by
      have := rank_comp (fun x => leaky (c : EReal) (s + x))
        (fun x y h => leaky_strictMono hc (by rw [← EReal.coe_toReal hs' hs]; exact coe_add_strictMono _ h)) t j
      exact this
    simp only [hr]

end

end Gat
-- ==== Proof.Literals.lean ====
/-
  The numbers the programs write as words: what each is over the extended reals.
-/
module

public import Idealize.ShloMosaic.PureOps.Ideal

@[expose] public section

namespace Gat

open Idealize.ShloMosaic

noncomputable section

/-- The rectifier's slope, as both programs write it. -/
def slope : EReal := Ideal.ofBits .f32 0x3E4CCCCD#32

/-- The kernel's large negative number. -/
def low : EReal := Ideal.ofBits .f32 0xF149F2CA#32

/-- The slope is a positive real number. -/
theorem slope_pos : ∃ c : ℝ, 0 < c ∧ slope = (c : EReal) :=
  ⟨13421773 * (2 ^ 26)⁻¹, by positivity, by simp [slope, Ideal.ofBits, Ideal.ieee, -EReal.coe_mul]⟩

/-- The large negative number is below +∞. -/
theorem low_ne_top : low ≠ ⊤ := by
  simp [low, Ideal.ofBits, Ideal.ieee, -EReal.coe_mul]

/-- The word of −∞ is −∞. -/
theorem negInf_word : Ideal.ofBits .f32 0xFF800000#32 = ⊥ := by
  simp [Ideal.ofBits, Ideal.ieee]

/-- The word the kernel compares a rank with is the number 51. -/
theorem fiftyOne_word : Ideal.ofBits .f32 0x424C0000#32 = ((51 : ℝ) : EReal) := by
  simp [Ideal.ofBits, Ideal.ieee, -EReal.coe_mul]
  norm_num

end

end Gat
-- ==== Proof.KernelHead.lean ====
/-
  One head of the kernel, as vector operations on the blocks it loads, and what each stage holds at an index. The four
  heads' printed values are this one term (Proof/KernelBlock.lean).
-/
module

public import proofs.«01_k».proof.Proof.Gen.KernelIdeal.Skeleton
public import proofs.«01_k».proof.Proof.Row
public import proofs.«01_k».proof.Proof.Literals
public import Idealize.ShloMosaic.Lib.Pointwise
public import Idealize.ShloMosaic.Lib.WordCmp
public import Idealize.ShloMosaic.Lib.Affine

@[expose] public section

noncomputable section

namespace Gat

open Idealize.ShloMosaic

/-- A condition widened to a word and read as a number is one where it holds and zero elsewhere. -/
theorem num_word (b : BitVec 1) :
    (FloatOps.sitofp .f32 (b.setWidth 32) : Ideal .f32) = if b = 1#1 then (1 : EReal) else 0 := by
  show (((b.setWidth 32).toInt : ℝ) : EReal) = _
  have h : ∀ b : BitVec 1, b = 0#1 ∨ b = 1#1 := by decide
  rcases h b with rfl | rfl <;> simp

end Gat

namespace Gat.KernelHead

open Cert.KernelIdeal Cert.KernelIdeal.Gen Idealize.ShloMosaic

/-- The projected features: the block's rows times the head's weights. -/
def feats (hb : FVec Ideal S512x256 .f32) (W : FVec Ideal S256x64 .f32) : FVec Ideal S512x64 .f32 :=
  matmul dot_S512x256_S256x64_S512x64_1_0_0_1_n_n none hb (shapeCast S256x64 W shapeCasts_S256x64_S256x64)
    (constant S512x64 .f32 0x00000000#32)

/-- One attention vector's product with every row of features, as a column. -/
def proj (Wh : FVec Ideal S512x64 .f32) (v : FVec Ideal S1x1x64 .f32) : FVec Ideal S512x1 .f32 :=
  matmul dot_S512x64_S64x1_S512x1_1_0_0_1_n_n none Wh
    (shapeCast S64x1 (shapeCast S64 v shapeCasts_S1x1x64_S64) shapeCasts_S64_S64x1) (constant S512x1 .f32 0x00000000#32)

/-- A column over the rows of the square. -/
def down (x : FVec Ideal S512x1 .f32) : FVec Ideal S512x512 .f32 := broadcastTo S512x512 x broadcasts_S512x1_S512x512

/-- A column, turned, over the columns of the square. -/
def across (x : FVec Ideal S512x1 .f32) : FVec Ideal S512x512 .f32 :=
  broadcastTo S512x512 (shapeCast S1x512 x shapeCasts_S512x1_S1x512) broadcasts_S1x512_S512x512

/-- A condition as a number. -/
def num (b : IVec S512x512 1) : FVec Ideal S512x512 .f32 := sitofp .f32 (extui 32 b natLt_1_32)

/-- A row's values summed, as a column. -/
def rowSum (x : FVec Ideal S512x512 .f32) : FVec Ideal S512x1 .f32 :=
  shapeCast S512x1 (multiReduction .add [1] S512 x 0x00000000#32 reduces_S512x512_S512_2 (.inl rfl) rfl) shapeCasts_S512_S512x1

/-- A row's largest value, as a column. -/
def rowTop (x : FVec Ideal S512x512 .f32) : FVec Ideal S512x1 .f32 :=
  shapeCast S512x1 (multiReduction .maximumf [1] S512 x 0xFF800000#32 reduces_S512x512_S512_2 (.inl rfl) rfl) shapeCasts_S512_S512x1

/-- Which targets are kept, from their scores: those with fewer than 51 targets ahead. -/
def keep (sd : FVec Ideal S512x1 .f32) : IVec S1x512 1 :=
  cmpf .olt
    (shapeCast S1x512
      (multiReduction .add [0] S512
        (addf (num (cmpf .ogt (down sd) (across sd))) (num (andi (cmpf .oeq (down sd) (across sd)) k0_pay4)))
        0x00000000#32 reduces_S512x512_S512 (.inl rfl) rfl)
      shapeCasts_S512_S1x512)
    (broadcast S1x512 (Scalar.ofBits .f32 0x424C0000#32))

/-- The kept targets over the rows of the square. -/
def kept (sd : FVec Ideal S512x1 .f32) : IVec S512x512 1 :=
  broadcastTo S512x512 (shapeCast S1x512 (keep sd) shapeCasts_S1x512_S1x512) broadcasts_S1x512_S512x512

/-- The scores, before the rectifier. -/
def sums (ss sd : FVec Ideal S512x1 .f32) : FVec Ideal S512x512 .f32 := addf (down ss) (across sd)

/-- The rectified scores. -/
def scores (ss sd : FVec Ideal S512x1 .f32) : FVec Ideal S512x512 .f32 :=
  select (cmpf .oge (sums ss sd) (broadcast S512x512 (Scalar.ofBits .f32 0x00000000#32))) (sums ss sd)
    (mulf (broadcast S512x512 (Scalar.ofBits .f32 0x3E4CCCCD#32)) (sums ss sd))

/-- Each row's largest score, a dropped target counting as the kernel's large negative number. -/
def tops (ss sd : FVec Ideal S512x1 .f32) : FVec Ideal S512x1 .f32 :=
  rowTop (select (kept sd) (scores ss sd) (broadcast S512x512 (Scalar.ofBits .f32 0xF149F2CA#32)))

/-- The weights: exponentials of the shifted scores at the kept targets, zero elsewhere. -/
def weights (ss sd : FVec Ideal S512x1 .f32) : FVec Ideal S512x512 .f32 :=
  select (kept sd) (exp (subf (scores ss sd) (down (tops ss sd)))) (broadcast S512x512 (Scalar.ofBits .f32 0x00000000#32))

/-- One head's result: the rows' shares, scaled by the adjacency, times the features. -/
def out (adj : FVec Ideal S512x512 .f32) (Wh : FVec Ideal S512x64 .f32) (ss sd : FVec Ideal S512x1 .f32) :
    FVec Ideal S512x64 .f32 :=
  matmul dot_S512x512_S512x64_S512x64_1_0_0_1_n_n none
    (mulf (divf (weights ss sd) (down (rowSum (weights ss sd)))) adj) Wh (constant S512x64 .f32 0x00000000#32)

/-- A projected feature is the row of features times the column of weights. -/
theorem feats_apply (hb : FVec Ideal S512x256 .f32) (W : FVec Ideal S256x64 .f32) (i : Fin 512) (d : Fin 64) :
    feats hb W (ix2 i d) = ∑ k : Fin 256, hb (ix2 i k) * W (ix2 k d) := by
  pointwise [feats, dot_S512x256_S256x64_S512x64_1_0_0_1_n_n]

/-- A row's product with an attention vector. -/
theorem proj_apply (Wh : FVec Ideal S512x64 .f32) (v : FVec Ideal S1x1x64 .f32) (i : Fin 512) :
    proj Wh v (ix2 i 0) = ∑ k : Fin 64, Wh (ix2 i k) * v (ix3 0 0 k) := by
  pointwise [proj, dot_S512x64_S64x1_S512x1_1_0_0_1_n_n]

/-- A column laid over the rows holds the row's number. -/
theorem down_apply (x : FVec Ideal S512x1 .f32) (i j : Fin 512) : down x (ix2 i j) = x (ix2 i 0) := by
  pointwise [down]

/-- A column turned over the columns holds the column's number. -/
theorem across_apply (x : FVec Ideal S512x1 .f32) (i j : Fin 512) : across x (ix2 i j) = x (ix2 j 0) := by
  pointwise [across]

/-- A condition as a number is one where it holds and zero elsewhere. -/
theorem num_apply (b : IVec S512x512 1) (i j : Fin 512) : num b (ix2 i j) = if b (ix2 i j) = 1#1 then 1 else 0 := by
  pointwise [num]
  exact Gat.num_word (b (ix2 i j))

/-- A row's sum, at an index. -/
theorem rowSum_apply (x : FVec Ideal S512x512 .f32) (i : Fin 512) :
    rowSum x (ix2 i 0) = ∑ j : Fin 512, x (ix2 i j) := by
  pointwise [rowSum]

/-- A row's largest value, at an index. -/
theorem rowTop_apply (x : FVec Ideal S512x512 .f32) (i : Fin 512) :
    rowTop x (ix2 i 0) = Finset.univ.fold max ⊥ fun j : Fin 512 => x (ix2 i j) := by
  pointwise [rowTop, negInf_word]

/-- A target is kept if fewer than 51 targets are ahead of it, by score and then by position. -/
theorem keep_apply (sd : FVec Ideal S512x1 .f32) (j : Fin 512) :
    keep sd (ix2 0 j) = BitVec.ofBool (decide (rank (fun k : Fin 512 => sd (ix2 k 0)) j < 51)) := by
  pointwise [keep, k0_pay4, num_apply, down_apply, across_apply, fiftyOne_word]
  have hlt : ∀ k : Fin 512, IntOp.cmpi .slt (BitVec.ofNat 32 k.val) (BitVec.ofNat 32 j.val) = 1#1 ↔ k.val < j.val :=
    fun k => WordCmp.cmpi_slt_ofNat_eq_one_iff (by omega) (by omega)
  simp only [IntOp.andi_eq_one, WordCmp.ofBool_decide_eq_one_iff, hlt]
  rw [sum_ahead (fun k : Fin 512 => sd (ix2 k 0)) j]
  congr 2
  rw [EReal.coe_lt_coe_iff]
  exact_mod_cast rfl

/-- Whether a target is kept does not depend on the row. -/
theorem kept_apply (sd : FVec Ideal S512x1 .f32) (i j : Fin 512) :
    kept sd (ix2 i j) = keep sd (ix2 0 j) := by
  pointwise [kept]

/-- A rectified score, at an index. -/
theorem scores_apply (ss sd : FVec Ideal S512x1 .f32) (i j : Fin 512) :
    scores ss sd (ix2 i j) = score slope (ss (ix2 i 0)) (fun k : Fin 512 => sd (ix2 k 0)) j := by
  pointwise [scores, sums, down_apply, across_apply]
  rfl

/-- A row's largest score, a dropped target counting as the kernel's large negative number. -/
theorem tops_apply (ss sd : FVec Ideal S512x1 .f32) (i : Fin 512) :
    tops ss sd (ix2 i 0) = rowMax (fun j : Fin 512 => rank (fun k : Fin 512 => sd (ix2 k 0)) j < 51)
      (score slope (ss (ix2 i 0)) (fun k : Fin 512 => sd (ix2 k 0))) low := by
  rw [tops, rowTop_apply]
  pointwise [kept_apply, keep_apply, scores_apply]
  unfold rowMax
  congr 1
  funext j
  split <;> rfl

/-- A target's weight in a row. -/
theorem weights_apply (ss sd : FVec Ideal S512x1 .f32) (i j : Fin 512) :
    weights ss sd (ix2 i j) = weight (fun j : Fin 512 => rank (fun k : Fin 512 => sd (ix2 k 0)) j < 51)
      (score slope (ss (ix2 i 0)) (fun k : Fin 512 => sd (ix2 k 0))) (tops ss sd (ix2 i 0)) j := by
  pointwise [weights, kept_apply, keep_apply, scores_apply, down_apply]
  unfold weight
  split <;> rfl

/-- One head's result at an index: the row's shares, scaled by the adjacency, times the features. -/
theorem out_apply (adj : FVec Ideal S512x512 .f32) (Wh : FVec Ideal S512x64 .f32) (ss sd : FVec Ideal S512x1 .f32)
    (i : Fin 512) (d : Fin 64) :
    out adj Wh ss sd (ix2 i d) = ∑ j : Fin 512,
      attK 51 slope low (ss (ix2 i 0)) (fun k : Fin 512 => sd (ix2 k 0)) j * adj (ix2 i j) * Wh (ix2 j d) := by
  pointwise [out, dot_S512x512_S512x64_S512x64_1_0_0_1_n_n, down_apply, rowSum_apply, weights_apply, tops_apply]
  rfl

end Gat.KernelHead
-- ==== Proof.Spec.lean ====
/-
  The layer's result at an index, as formulas in the four arguments: the features, the two attention products of a node, and
  the result with the shares written as the kernel has them and as the reference has them. The two are equal.
-/
module

public import proofs.«01_k».proof.Proof.Row
public import proofs.«01_k».proof.Proof.Literals
public import Idealize.ShloMosaic.Lib.Pointwise

@[expose] public section

noncomputable section

namespace Gat

/-- Feature `d` of a node of batch element `b`: its row of `h` times a head's weights. -/
def wh (h : Fin 4 → Fin 512 → Fin 256 → EReal) (W : Fin 4 → Fin 256 → Fin 64 → EReal) (b : Fin 4) (hd : Fin 4)
    (i : Fin 512) (d : Fin 64) : EReal :=
  ∑ k : Fin 256, h b i k * W hd k d

/-- A node's features times the half of a head's attention vector that starts at `o`. -/
def half (h : Fin 4 → Fin 512 → Fin 256 → EReal) (W : Fin 4 → Fin 256 → Fin 64 → EReal) (a : Fin 4 → Fin 2 → Fin 64 → EReal)
    (o : Fin 2) (b : Fin 4) (hd : Fin 4) (i : Fin 512) : EReal :=
  ∑ d : Fin 64, wh h W b hd i d * a hd o d

/-- The result with the kernel's shares. -/
def specK (h : Fin 4 → Fin 512 → Fin 256 → EReal) (adj : Fin 4 → Fin 512 → Fin 512 → EReal)
    (W : Fin 4 → Fin 256 → Fin 64 → EReal) (a : Fin 4 → Fin 2 → Fin 64 → EReal)
    (b : Fin 4) (i : Fin 512) (hd : Fin 4) (d : Fin 64) : EReal :=
  ∑ j : Fin 512, attK 51 slope low (half h W a 0 b hd i) (fun k => half h W a 1 b hd k) j * adj b i j * wh h W b hd j d

/-- The result with the reference's shares. -/
def specR (h : Fin 4 → Fin 512 → Fin 256 → EReal) (adj : Fin 4 → Fin 512 → Fin 512 → EReal)
    (W : Fin 4 → Fin 256 → Fin 64 → EReal) (a : Fin 4 → Fin 2 → Fin 64 → EReal)
    (b : Fin 4) (i : Fin 512) (hd : Fin 4) (d : Fin 64) : EReal :=
  ∑ j : Fin 512, attR 51 slope (half h W a 0 b hd i) (fun k => half h W a 1 b hd k) j * adj b i j * wh h W b hd j d

/-- The kernel's shares and the reference's give one result. -/
theorem specK_eq_specR (h : Fin 4 → Fin 512 → Fin 256 → EReal) (adj : Fin 4 → Fin 512 → Fin 512 → EReal)
    (W : Fin 4 → Fin 256 → Fin 64 → EReal) (a : Fin 4 → Fin 2 → Fin 64 → EReal)
    (b : Fin 4) (i : Fin 512) (hd : Fin 4) (d : Fin 64) : specK h adj W a b i hd d = specR h adj W a b i hd d := by
  obtain ⟨c, hc, e⟩ := slope_pos
  unfold specK specR
  rw [e, attK_eq_attR (by norm_num) (by norm_num) hc low_ne_top]

/-- The column of the result that holds feature `d` of head `hd`: the heads stand side by side. -/
def col (hd : Fin 4) (d : Fin 64) : Fin 256 := ⟨64 * hd.val + d.val, by omega⟩

/-- Every column is some head's some feature. -/
theorem exists_col (c : Fin 256) : ∃ hd d, c = col hd d :=
  ⟨⟨c.val / 64, by omega⟩, ⟨c.val % 64, by omega⟩, Fin.ext (by simp only [col]; omega)⟩

/-- Place `k` of the half `o` of an attention vector of length 128. -/
def place (o : Fin 2) (k : Fin 64) : Fin 128 := ⟨o.val * 64 + k.val, by omega⟩

end Gat

end
-- ==== Proof.KernelBlock.lean ====
/-
  What one grid point of the kernel stores, at an index: the four heads side by side, each the value `Gat.KernelHead.out`
  of the blocks the point loads.
-/
module

public import proofs.«01_k».proof.Proof.Gen.KernelIdeal.Frame
public import proofs.«01_k».proof.Proof.KernelHead
public import proofs.«01_k».proof.Proof.Spec

@[expose] public section

noncomputable section

namespace Gat.KernelBlock

open Cert.KernelIdeal Cert.KernelIdeal.Gen Idealize.ShloMosaic Gat.KernelHead

/-- The heads' source halves, as the body loads them. -/
def srcVec (x6 : Vec Ideal S4x2x64 .f32) : Fin 4 → FVec Ideal S1x1x64 .f32 :=
  ![View.ld (Val := Elt Ideal) x6 r0_3, View.ld (Val := Elt Ideal) x6 r0_5, View.ld (Val := Elt Ideal) x6 r0_7,
    View.ld (Val := Elt Ideal) x6 r0_9]

/-- The heads' target halves, as the body loads them. -/
def dstVec (x6 : Vec Ideal S4x2x64 .f32) : Fin 4 → FVec Ideal S1x1x64 .f32 :=
  ![View.ld (Val := Elt Ideal) x6 r0_4, View.ld (Val := Elt Ideal) x6 r0_6, View.ld (Val := Elt Ideal) x6 r0_8,
    View.ld (Val := Elt Ideal) x6 r0_10]

/-- One head's value in the block. -/
def head (x0 : Vec Ideal S1x512x256 .f32) (x1 : Vec Ideal S1x512x512 .f32) (W : FVec Ideal S256x64 .f32)
    (s t : FVec Ideal S1x1x64 .f32) : FVec Ideal S512x64 .f32 :=
  out (k0_pay3 x1) (feats (k0_pay2 x0) W) (proj (feats (k0_pay2 x0) W) s) (proj (feats (k0_pay2 x0) W) t)

/-- Four heads side by side, read in head `hd`'s columns. -/
theorem beside_apply (f : Fin 4 → FVec Ideal S512x64 .f32) (hc) (i : Fin 512) (hd : Fin 4) (d : Fin 64) :
    concatenate (α := EReal) S512x256 1 [⟨S512x64, f 0⟩, ⟨S512x64, f 1⟩, ⟨S512x64, f 2⟩, ⟨S512x64, f 3⟩] hc (ix2 i (col hd d))
      = f hd (ix2 i d) := by
  fin_cases hd <;> pointwise [col]
  · rw [dif_neg (by omega), dif_neg (by omega), dif_pos (by omega)]
    congr 2; exact Fin.ext (by dsimp only; omega)
  · rw [dif_neg (by omega), dif_neg (by omega), dif_neg (by omega)]
    congr 2; exact Fin.ext (by dsimp only; omega)

/-- The stored block is the four heads side by side. -/
theorem out_eq (x0 : Vec Ideal S1x512x256 .f32) (x1 : Vec Ideal S1x512x512 .f32)
    (x2 x3 x4 x5 : Vec Ideal S256x64 .f32) (x6 : Vec Ideal S4x2x64 .f32) :
    out0_7 (F := Ideal) x0 x1 x2 x3 x4 x5 x6 = shapeCast S1x512x256 (concatenate (α := EReal) S512x256 1
      [⟨S512x64, head x0 x1 x2 (srcVec x6 0) (dstVec x6 0)⟩, ⟨S512x64, head x0 x1 x3 (srcVec x6 1) (dstVec x6 1)⟩,
       ⟨S512x64, head x0 x1 x4 (srcVec x6 2) (dstVec x6 2)⟩, ⟨S512x64, head x0 x1 x5 (srcVec x6 3) (dstVec x6 3)⟩]
      concatenates_S512x64_S512x64_S512x64_S512x64_S512x256_d1) shapeCasts_S512x256_S1x512x256 := by
  unfold_out out0_7
  have h3 : (![0, 0, 0] : Fin 3 → ℕ) = fun _ => 0 := funext fun a => by fin_cases a <;> rfl
  have h2 : (![0, 0] : Fin 2 → ℕ) = fun _ => 0 := funext fun a => by fin_cases a <;> rfl
  have e0 : View.ld x0 r0_0 = x0 := View.ld_unit_zero h3 _ x0
  have e1 : View.ld x1 r0_1 = x1 := View.ld_unit_zero h3 _ x1
  have e2 : ∀ x : Vec Ideal S256x64 .f32, View.ld x r0_2 = x := fun x => View.ld_unit_zero h2 _ x
  rw [View.canon_unit_zero h3]
  simp only [e0, e1, e2]
  rfl

/-- The features of the block's rows. -/
theorem blockFeats_apply (x0 : Vec Ideal S1x512x256 .f32) (W : FVec Ideal S256x64 .f32) (i : Fin 512) (d : Fin 64) :
    feats (k0_pay2 x0) W (ix2 i d) = ∑ k : Fin 256, x0 (ix3 0 i k) * W (ix2 k d) := by
  rw [feats_apply]
  refine Finset.sum_congr rfl fun k _ => ?_
  congr 1
  pointwise [k0_pay2]

/-- The loaded source half of head `hd`. -/
theorem srcVec_apply (x6 : Vec Ideal S4x2x64 .f32) (hd : Fin 4) (k : Fin 64) :
    srcVec x6 hd (ix3 0 0 k) = x6 (ix3 hd 0 k) := by
  fin_cases hd <;> pointwise [srcVec]

/-- The loaded target half of head `hd`. -/
theorem dstVec_apply (x6 : Vec Ideal S4x2x64 .f32) (hd : Fin 4) (k : Fin 64) :
    dstVec x6 hd (ix3 0 0 k) = x6 (ix3 hd 1 k) := by
  fin_cases hd <;> pointwise [dstVec]

/-- One head's value in the block, at an index. -/
theorem head_apply (x0 : Vec Ideal S1x512x256 .f32) (x1 : Vec Ideal S1x512x512 .f32) (W : FVec Ideal S256x64 .f32)
    (s t : FVec Ideal S1x1x64 .f32) (i : Fin 512) (d : Fin 64) :
    head x0 x1 W s t (ix2 i d) = ∑ j : Fin 512,
      attK 51 slope low (∑ k : Fin 64, feats (k0_pay2 x0) W (ix2 i k) * s (ix3 0 0 k))
        (fun j => ∑ k : Fin 64, feats (k0_pay2 x0) W (ix2 j k) * t (ix3 0 0 k)) j
      * x1 (ix3 0 i j) * feats (k0_pay2 x0) W (ix2 j d) := by
  unfold head
  rw [out_apply]
  simp only [proj_apply]
  refine Finset.sum_congr rfl fun j _ => ?_
  congr 2
  pointwise [k0_pay3]

/-- The stored block at row `i`, head `hd`'s column `d`. -/
theorem block_apply (x0 : Vec Ideal S1x512x256 .f32) (x1 : Vec Ideal S1x512x512 .f32)
    (W : Fin 4 → Vec Ideal S256x64 .f32) (x6 : Vec Ideal S4x2x64 .f32) (i : Fin 512) (hd : Fin 4) (d : Fin 64) :
    out0_7 (F := Ideal) x0 x1 (W 0) (W 1) (W 2) (W 3) x6 (ix3 0 i (col hd d))
      = head x0 x1 (W hd) (srcVec x6 hd) (dstVec x6 hd) (ix2 i d) := by
  rw [out_eq]
  refine Eq.trans ?_ (beside_apply (fun hd => head x0 x1 (W hd) (srcVec x6 hd) (dstVec x6 hd))
    concatenates_S512x64_S512x64_S512x64_S512x64_S512x256_d1 i hd d)
  generalize concatenate (α := EReal) S512x256 1 _ _ = X
  pointwise

end Gat.KernelBlock

end
-- ==== Proof.KernelArray.lean ====
/-
  The kernel's result array after the run, at an index: grid point `b` writes batch element `b`, from its blocks of the four
  arguments.
-/
module

public import proofs.«01_k».proof.Proof.Gen.KernelIdeal.Value
public import proofs.«01_k».proof.Proof.KernelBlock
public import Idealize.ShloMosaic.Lib.Pipeline.ValueKit
public import Idealize.ShloMosaic.Lib.Claim

@[expose] public section

noncomputable section

namespace Gat.KernelArray

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The launched node features. -/
def argH (b : Fin 4) (i : Fin 512) (k : Fin 256) : EReal := m ((c : Thread nD τ).loc main_arg0) (ix3 b i k)

/-- The launched adjacency. -/
def argAdj (b : Fin 4) (i j : Fin 512) : EReal := m ((c : Thread nD τ).loc main_arg1) (ix3 b i j)

/-- The launched projections. -/
def argW (hd : Fin 4) (k : Fin 256) (d : Fin 64) : EReal := m ((c : Thread nD τ).loc main_arg2) (ix3 hd k d)

/-- The launched attention vectors, by halves. -/
def argA (hd : Fin 4) (o : Fin 2) (k : Fin 64) : EReal := m ((c : Thread nD τ).loc main_arg3) (ix3 hd (place o k) 0)

/-- The grid point that works on batch element `b`. -/
def point (b : Fin 4) : Fin cfg0.N := ⟨b.val, b.isLt.trans_eq N_0.symm⟩

/-- The index maps: the features, the adjacency and the result move with the point, the rest stays. -/
theorem idx : ∀ b : Fin 4,
    win0_0.index (point b) = ![b.val, 0, 0] ∧ win0_1.index (point b) = ![b.val, 0, 0] ∧ win0_2.index (point b) = ![0, 0]
      ∧ win0_3.index (point b) = ![0, 0] ∧ win0_4.index (point b) = ![0, 0] ∧ win0_5.index (point b) = ![0, 0]
      ∧ win0_6.index (point b) = ![0, 0, 0] ∧ win0_7.index (point b) = ![b.val, 0, 0] := by
  decide +kernel

/-- A point's block of the features is its batch element. -/
theorem blkH (b : Fin 4) (i : Fin 512) (k : Fin 256) : iblk m c 0 (point b) (ix3 0 i k) = argH m c b i k := by
  unfold argH iblk
  show V m c main_arg0 _ = _
  rw [V_main_arg0]
  blk_ext [(idx b).1]

/-- A point's block of the adjacency is its batch element. -/
theorem blkAdj (b : Fin 4) (i j : Fin 512) : iblk m c 1 (point b) (ix3 0 i j) = argAdj m c b i j := by
  unfold argAdj iblk
  show V m c main_arg1 _ = _
  rw [V_main_arg1]
  blk_ext [(idx b).2.1]

/-- A point's blocks of the four heads' weights. -/
def weightBlks (b : Fin 4) : Fin 4 → Vec Ideal S256x64 .f32 :=
  ![iblk m c 2 (point b), iblk m c 3 (point b), iblk m c 4 (point b), iblk m c 5 (point b)]

/-- A head's block of weights is that head's matrix. -/
theorem blkW (b hd : Fin 4) (k : Fin 256) (d : Fin 64) : weightBlks m c b hd (ix2 k d) = argW m c hd k d := by
  obtain ⟨-, -, h0, h1, h2, h3, -⟩ := idx b
  unfold argW weightBlks iblk
  fin_cases hd
  · refine (show _ = V m c main_v2 (ix2 k d) by blk_ext [h0]).trans ?_
    entry_read
    pointwise
  · refine (show _ = V m c main_v4 (ix2 k d) by blk_ext [h1]).trans ?_
    entry_read
    pointwise
  · refine (show _ = V m c main_v6 (ix2 k d) by blk_ext [h2]).trans ?_
    entry_read
    pointwise
  · refine (show _ = V m c main_v8 (ix2 k d) by blk_ext [h3]).trans ?_
    entry_read
    pointwise

/-- A point's block of the attention vectors is all of them, by halves. -/
theorem blkA (b : Fin 4) (hd : Fin 4) (o : Fin 2) (k : Fin 64) :
    iblk m c 6 (point b) (ix3 hd o k) = argA m c hd o k := by
  obtain ⟨-, -, -, -, -, -, h, -⟩ := idx b
  unfold argA iblk
  refine (show _ = V m c main_v0 (ix3 hd o k) by blk_ext [h]).trans ?_
  entry_read
  pointwise [place]

/-- The features of a point's rows. -/
theorem feats_blk (b hd : Fin 4) (i : Fin 512) (d : Fin 64) :
    KernelHead.feats (k0_pay2 (iblk m c 0 (point b))) (weightBlks m c b hd) (ix2 i d)
      = wh (argH m c) (argW m c) b hd i d := by
  rw [KernelBlock.blockFeats_apply]
  simp only [blkH, blkW]
  rfl

/-- The result array after the run, at batch element `b`, row `i`, head `hd`'s column `d`. -/
theorem result_apply (b : Fin 4) (i : Fin 512) (hd : Fin 4) (d : Fin 64) :
    (dats m 0 c).arrAt 7 cfg0.N (ix3 b i (col hd d)) = specK (argH m c) (argAdj m c) (argW m c) (argA m c) b i hd d := by
  have hb := congrFun (Value.blocks7 m c (point b) (by decide +revert +kernel)) (ix3 0 i (col hd d))
  rw [Value.flushed7] at hb
  obtain ⟨-, -, -, -, -, -, -, h⟩ := idx b
  refine (show _ = _ by blk_ext [h]).trans (hb.trans ?_)
  refine (show _ = out0_7 (F := Ideal) (iblk m c 0 (point b)) (iblk m c 1 (point b)) (weightBlks m c b 0) (weightBlks m c b 1)
    (weightBlks m c b 2) (weightBlks m c b 3) (iblk m c 6 (point b)) (ix3 0 i (col hd d)) by rfl).trans ?_
  rw [KernelBlock.block_apply, KernelBlock.head_apply]
  simp only [feats_blk, KernelBlock.srcVec_apply, KernelBlock.dstVec_apply, blkA, blkAdj]
  rfl

end Gat.KernelArray

end
-- ==== Proof.ReferenceHead.lean ====
/-
  One head of the reference, as host operations on whole arrays, and what each stage holds at an index. The four heads'
  printed values are this one term (Proof/ReferenceArray.lean).
-/
module

public import proofs.«01_k».proof.Proof.Gen.ReferenceIdeal
public import proofs.«01_k».proof.Proof.Row
public import proofs.«01_k».proof.Proof.Literals
public import Idealize.ShloMosaic.Lib.Pointwise
public import Idealize.ShloMosaic.Lib.WordCmp
public import Idealize.ShloMosaic.Lib.Affine
public import Idealize.ShloMosaic.PureOps.Ideal.Laws

@[expose] public section

noncomputable section

namespace Gat.ReferenceHead

open Cert.ReferenceIdeal Cert.ReferenceIdeal.Gen Idealize.ShloMosaic

/-- The projected features. -/
def feats (h : FVec Ideal S4x512x256 .f32) (W : FVec Ideal S256x64 .f32) : FVec Ideal S4x512x64 .f32 :=
  Host.dotGeneral dot_S4x512x256_S256x64_S4x512x64_2_0_01_1_n_n none h W

/-- Half an attention vector's product with every node's features. -/
def prod (Wh : FVec Ideal S4x512x64 .f32) (v : FVec Ideal S64 .f32) : FVec Ideal S4x512 .f32 :=
  Host.dotGeneral dot_S4x512x64_S64_S4x512_2_0_01_n_n_n none Wh v

/-- One number per row, over the square. -/
def down (x : FVec Ideal S4x512 .f32) : FVec Ideal S4x512x512 .f32 :=
  broadcastInDim S4x512x512 ![0, 1, 2] bcast_S4x512x1_S4x512x512_0_1_2 (broadcastInDim S4x512x1 ![0, 1] bcast_S4x512_S4x512x1_0_1 x)

/-- One number per column, over the square. -/
def across (x : FVec Ideal S4x512 .f32) : FVec Ideal S4x512x512 .f32 :=
  broadcastInDim S4x512x512 ![0, 1, 2] bcast_S4x1x512_S4x512x512_0_1_2 (broadcastInDim S4x1x512 ![0, 2] bcast_S4x512_S4x1x512_0_2 x)

/-- One number, over the square. -/
def fill (w : BitVec 32) : FVec Ideal S4x512x512 .f32 :=
  broadcastInDim S4x512x512 ![] bcast_S_S4x512x512 (constant S_ .f32 w)

/-- The rectified scores. -/
def scores (ss sd : FVec Ideal S4x512 .f32) : FVec Ideal S4x512x512 .f32 :=
  select (cmpf .oge (addf (down ss) (across sd)) (fill 0x00000000#32)) (addf (down ss) (across sd))
    (mulf (fill 0x3E4CCCCD#32) (addf (down ss) (across sd)))

/-- The positions of each row's 51 largest scores. -/
def places (e : FVec Ideal S4x512x512 .f32) : IVec S4x512x51 32 :=
  (Host.topK S4x512x51 2 (FloatOps.cmpfTotal .gt) e sliceFits_S4x512x512_S4x512x51).2

/-- Each slot's position as a row of zeros with a one. -/
def hot (p : IVec S4x512x51 32) : FVec Ideal S4x512x51x512 .f32 :=
  uitofp .f32 (cmpi .eq
    (broadcastInDim S4x512x51x512 ![0, 1, 2, 3] bcast_S4x512x51x1_S4x512x51x512_0_1_2_3
      (broadcastInDim S4x512x51x1 ![0, 1, 2] bcast_S4x512x51_S4x512x51x1_0_1_2 p))
    (broadcastInDim S4x512x51x512 ![0, 1, 2, 3] bcast_S1x1x1x512_S4x512x51x512_0_1_2_3 (iotaInDim S1x1x1x512 32 3)))

/-- How many slots name each position. -/
def counts (p : IVec S4x512x51 32) : FVec Ideal S4x512x512 .f32 :=
  Host.reduceAdd (hot p) (constant S_ .f32 0x00000000#32) reducesTo_S4x512x51x512_S4x512x512_d2 h_S_

/-- The scores, −∞ where no slot names the position. -/
def masked (e : FVec Ideal S4x512x512 .f32) : FVec Ideal S4x512x512 .f32 :=
  select (cmpf .oeq (counts (places e)) (fill 0x00000000#32)) (fill 0xFF800000#32) e

/-- Each row's largest masked score. -/
def tops (x : FVec Ideal S4x512x512 .f32) : FVec Ideal S4x512 .f32 :=
  maximumf (broadcastInDim S4x512 ![] bcast_S_S4x512 (constant S_ .f32 0xFF800000#32))
    (Host.reduce FloatOps.maximumf x (constant S_ .f32 0xFF800000#32) reducesTo_S4x512x512_S4x512_d2 h_S_)

/-- The exponentials of the shifted masked scores. -/
def weights (x : FVec Ideal S4x512x512 .f32) : FVec Ideal S4x512x512 .f32 := Host.exp (subf x (down (tops x)))

/-- Each row's total. -/
def rowSum (x : FVec Ideal S4x512x512 .f32) : FVec Ideal S4x512 .f32 :=
  Host.reduceAdd x (constant S_ .f32 0x00000000#32) reducesTo_S4x512x512_S4x512_d2 h_S_

/-- One head's result. -/
def out (adj : FVec Ideal S4x512x512 .f32) (Wh : FVec Ideal S4x512x64 .f32) (ss sd : FVec Ideal S4x512 .f32) :
    FVec Ideal S4x512x64 .f32 :=
  Host.dotGeneral dot_S4x512x512_S4x512x64_S4x512x64_2_1_1_2_0_0 none
    (mulf (Host.divf (weights (masked (scores ss sd))) (down (rowSum (weights (masked (scores ss sd)))))) adj) Wh

/-- A feature: the node's row of `h` times the weights' column. -/
theorem feats_apply (h : FVec Ideal S4x512x256 .f32) (W : FVec Ideal S256x64 .f32) (b : Fin 4) (i : Fin 512) (d : Fin 64) :
    feats h W (ix3 b i d) = ∑ k : Fin 256, h (ix3 b i k) * W (ix2 k d) := by
  pointwise [feats, dot_S4x512x256_S256x64_S4x512x64_2_0_01_1_n_n]

/-- A node's features times half an attention vector. -/
theorem prod_apply (Wh : FVec Ideal S4x512x64 .f32) (v : FVec Ideal S64 .f32) (b : Fin 4) (i : Fin 512) :
    prod Wh v (ix2 b i) = ∑ k : Fin 64, Wh (ix3 b i k) * v (ix1 k) := by
  pointwise [prod, dot_S4x512x64_S64_S4x512_2_0_01_n_n_n]

/-- A row's number in the square. -/
theorem down_apply (x : FVec Ideal S4x512 .f32) (b : Fin 4) (i j : Fin 512) : down x (ix3 b i j) = x (ix2 b i) := by
  pointwise [down]

/-- A column's number in the square. -/
theorem across_apply (x : FVec Ideal S4x512 .f32) (b : Fin 4) (i j : Fin 512) : across x (ix3 b i j) = x (ix2 b j) := by
  pointwise [across]

/-- The one number in the square. -/
theorem fill_apply (w : BitVec 32) (b : Fin 4) (i j : Fin 512) : fill w (ix3 b i j) = Ideal.ofBits .f32 w := by
  pointwise [fill]

/-- The slots' rows, summed. -/
theorem counts_apply (p : IVec S4x512x51 32) (b : Fin 4) (i : Fin 512) (j : Fin 512) :
    counts p (ix3 b i j) = ∑ k : Fin 51, hot p (ix4 b i k j) := by
  pointwise [counts]

/-- A row's total. -/
theorem rowSum_apply (x : FVec Ideal S4x512x512 .f32) (b : Fin 4) (i : Fin 512) :
    rowSum x (ix2 b i) = ∑ j : Fin 512, x (ix3 b i j) := by
  pointwise [rowSum]

/-- The head's result: shares times adjacency times features. -/
theorem out_sum (adj : FVec Ideal S4x512x512 .f32) (Wh : FVec Ideal S4x512x64 .f32) (ss sd : FVec Ideal S4x512 .f32)
    (b : Fin 4) (i : Fin 512) (d : Fin 64) :
    out adj Wh ss sd (ix3 b i d) = ∑ j : Fin 512,
      Ideal.div (weights (masked (scores ss sd)) (ix3 b i j)) (∑ j', weights (masked (scores ss sd)) (ix3 b i j'))
        * adj (ix3 b i j) * Wh (ix3 b j d) := by
  pointwise [out, dot_S4x512x512_S4x512x64_S4x512x64_2_1_1_2_0_0, down_apply, rowSum_apply]

end Gat.ReferenceHead

end
-- ==== Proof.ReferenceRow.lean ====
/-
  One row of a head of the reference: which scores are kept, the weights, the head's result.
-/
module

public import proofs.«01_k».proof.Proof.ReferenceHead

@[expose] public section

noncomputable section

namespace Gat.ReferenceHead

open Cert.ReferenceIdeal Cert.ReferenceIdeal.Gen Idealize.ShloMosaic

/-- A score is the rectified sum of the source's number and the target's. -/
theorem scores_apply (ss sd : FVec Ideal S4x512 .f32) (b : Fin 4) (i j : Fin 512) :
    scores ss sd (ix3 b i j) = score slope (ss (ix2 b i)) (fun k => sd (ix2 b k)) j := by
  pointwise [scores, down_apply, across_apply, fill_apply]
  rfl

/-- One row of the square, along its last axis. -/
theorem along_eq (b : Fin 4) (i : Fin 512) (k j : Fin 512) :
    (ix3 b i k : S4x512x512.Idx).along 2 j = ix3 b i j := by
  funext a
  fin_cases a <;> rfl

/-- One row's comparison of scores, as the sort makes it. -/
theorem larger_row (e : FVec Ideal S4x512x512 .f32) (b : Fin 4) (i k : Fin 512) :
    (fun p q : Fin 512 => FloatOps.cmpfTotal (F := Ideal) (φ := .f32) .gt
      (e ((ix3 b i k : S4x512x512.Idx).along 2 p)) (e ((ix3 b i k : S4x512x512.Idx).along 2 q)) == 1#1)
      = larger fun j => e (ix3 b i j) := by
  funext p q
  rw [along_eq, along_eq]
  unfold larger
  by_cases h : e (ix3 b i q) < e (ix3 b i p) <;> simp [Ideal.cmpfTotal_def, CmpDirection.ordered, Ideal.cmp, h]

/-- The position in slot `k` is the row's `k`-th in order of score. -/
theorem places_apply (e : FVec Ideal S4x512x512 .f32) (b : Fin 4) (i : Fin 512) (k : Fin 51) :
    places e (ix3 b i k)
      = BitVec.ofNat 32 (sortedFrom (larger fun j => e (ix3 b i j)) (⟨k.val, by omega⟩ : Fin 512)).val := by
  unfold places Host.topK Host.sort2
  pointwise
  refine (congrArg (fun j : S4x512x512.Idx => BitVec.ofNat 32 (j 2).val) (along_eq b i _ _)).trans ?_
  exact congrArg (fun f => BitVec.ofNat 32 (sortedFrom f (⟨k.val, by omega⟩ : Fin 512)).val) (larger_row e b i _)

/-- A slot's row has its one where the slot's position is. -/
theorem hot_apply (p : IVec S4x512x51 32) (b : Fin 4) (i : Fin 512) (k : Fin 51) (j : Fin 512) :
    hot p (ix4 b i k j) = if p (ix3 b i k) = BitVec.ofNat 32 j.val then 1 else 0 := by
  pointwise [hot]
  show ((((IntOp.cmpi CmpIPredicate.eq (p (ix3 b i k)) (BitVec.ofNat 32 ↑j)).toNat : ℕ) : ℝ) : EReal) = _
  by_cases h : p (ix3 b i k) = BitVec.ofNat 32 j.val <;> simp [IntOp.cmpi, h]

/-- No slot names a position exactly when 51 or more scores are ahead of it. -/
theorem counts_eq_zero_iff (e : FVec Ideal S4x512x512 .f32) (b : Fin 4) (i j : Fin 512) :
    counts (places e) (ix3 b i j) = 0 ↔ ¬ rank (fun j => e (ix3 b i j)) j < 51 := by
  rw [counts_apply, Finset.sum_eq_zero_iff_of_nonneg (fun k _ => by rw [hot_apply]; split <;> norm_num),
    ← exists_place_iff (fun j => e (ix3 b i j)) 51 j]
  push Not
  simp only [hot_apply, places_apply, Finset.mem_univ, true_implies]
  have hw : ∀ u v : Fin 512, BitVec.ofNat 32 u.val = BitVec.ofNat 32 v.val ↔ u = v := fun u v => by
    refine ⟨fun h => Fin.ext ?_, fun h => h ▸ rfl⟩
    have := congrArg BitVec.toNat h
    simp only [BitVec.toNat_ofNat] at this
    omega
  simp only [hw]
  constructor
  · intro h k hk he
    have := h ⟨k.val, hk⟩
    rw [if_pos he] at this
    exact one_ne_zero this
  · intro h k
    exact if_neg (h ⟨k.val, by omega⟩ k.isLt)

/-- A masked score: the score at the 51 best positions, −∞ elsewhere. -/
theorem masked_apply (e : FVec Ideal S4x512x512 .f32) (b : Fin 4) (i j : Fin 512) :
    masked e (ix3 b i j) = if rank (fun j => e (ix3 b i j)) j < 51 then e (ix3 b i j) else ⊥ := by
  pointwise [masked, fill_apply]
  by_cases h : rank (fun j => e (ix3 b i j)) j < 51
  · rw [if_pos h, if_neg (fun h0 => (counts_eq_zero_iff e b i j).mp h0 h)]
  · rw [if_neg h, if_pos ((counts_eq_zero_iff e b i j).mpr h)]
    exact negInf_word

/-- The larger of two arrays, at an index. -/
theorem larger_apply {s : Shape} (x y : FVec Ideal s .f32) (j : s.Idx) : maximumf x y j = max (x j) (y j) := rfl

/-- A row's largest number, by the host's reduction. -/
theorem rowTop_apply (x : FVec Ideal S4x512x512 .f32) (b : Fin 4) (i : Fin 512) :
    Host.reduce FloatOps.maximumf x (constant (F := Ideal) S_ .f32 0xFF800000#32) reducesTo_S4x512x512_S4x512_d2 h_S_ (ix2 b i)
      = Finset.univ.fold max (Ideal.ofBits .f32 0xFF800000#32) fun j => x (ix3 b i j) := by
  pointwise

/-- The largest of a row. -/
theorem tops_apply (x : FVec Ideal S4x512x512 .f32) (b : Fin 4) (i : Fin 512) :
    tops x (ix2 b i) = Finset.univ.fold max ⊥ fun j => x (ix3 b i j) := by
  unfold tops
  rw [larger_apply, rowTop_apply, negInf_word]
  have e : broadcastInDim S4x512 ![] bcast_S_S4x512 (constant (F := Ideal) S_ .f32 0xFF800000#32) (ix2 b i) = (⊥ : EReal) := by
    pointwise
    exact negInf_word
  rw [e, max_eq_right bot_le]

/-- The masked scores' weights are the row's weights over the kept positions. -/
theorem weights_apply (e : FVec Ideal S4x512x512 .f32) (b : Fin 4) (i j : Fin 512) :
    weights (masked e) (ix3 b i j) = weight (fun j => rank (fun j => e (ix3 b i j)) j < 51) (fun j => e (ix3 b i j))
      (rowMax (fun j => rank (fun j => e (ix3 b i j)) j < 51) (fun j => e (ix3 b i j)) ⊥) j := by
  have ht : tops (masked e) (ix2 b i)
      = rowMax (fun j => rank (fun j => e (ix3 b i j)) j < 51) (fun j => e (ix3 b i j)) ⊥ := by
    rw [tops_apply]
    unfold rowMax
    refine congrArg (fun f => Finset.univ.fold max ⊥ f) (funext fun j => ?_)
    rw [masked_apply]
    split <;> rfl
  pointwise [weights, down_apply]
  rw [ht, masked_apply]
  unfold weight
  split
  · rfl
  · rw [sub_eq_add_neg, EReal.bot_add, Ideal.exp_bot]

/-- The head's result at an index. -/
theorem out_apply (adj : FVec Ideal S4x512x512 .f32) (Wh : FVec Ideal S4x512x64 .f32) (ss sd : FVec Ideal S4x512 .f32)
    (b : Fin 4) (i : Fin 512) (d : Fin 64) :
    out adj Wh ss sd (ix3 b i d) = ∑ j : Fin 512,
      attR 51 slope (ss (ix2 b i)) (fun k => sd (ix2 b k)) j * adj (ix3 b i j) * Wh (ix3 b j d) := by
  rw [out_sum]
  simp only [weights_apply, scores_apply]
  rfl

end Gat.ReferenceHead

end
-- ==== Proof.ReferenceArray.lean ====
/-
  The reference's result at an index: the four heads side by side, each one the same head term on its own weights and
  attention vector.
-/
module

public import proofs.«01_k».proof.Proof.Gen.ReferenceIdeal.Read
public import proofs.«01_k».proof.Proof.ReferenceRow
public import proofs.«01_k».proof.Proof.Spec

@[expose] public section

noncomputable section

namespace Gat.ReferenceArray

open Cert.ReferenceIdeal Cert.ReferenceIdeal.Gen Cert.ReferenceIdeal.Read Idealize.ShloMosaic Gat.ReferenceHead

/-- One head's result from the features, the adjacency, the head's weights and the two halves of its attention vector. -/
def head (h : FVec Ideal S4x512x256 .f32) (adj : FVec Ideal S4x512x512 .f32) (W : FVec Ideal S256x64 .f32)
    (s t : FVec Ideal S64 .f32) : FVec Ideal S4x512x64 .f32 :=
  out adj (feats h W) (prod (feats h W) s) (prod (feats h W) t)

variable (h : FVec Ideal S4x512x256 .f32) (adj : FVec Ideal S4x512x512 .f32) (W : FVec Ideal S4x256x64 .f32)
  (a : FVec Ideal S4x128x1 .f32)

/-- The heads' weights. -/
def weightOf : Fin 4 → FVec Ideal S256x64 .f32 :=
  ![val_main_v1 (F := Ideal) W, val_main_v38 (F := Ideal) W, val_main_v75 (F := Ideal) W, val_main_v112 (F := Ideal) W]

/-- The heads' source halves. -/
def srcOf : Fin 4 → FVec Ideal S64 .f32 :=
  ![val_main_v6 (F := Ideal) a, val_main_v43 (F := Ideal) a, val_main_v80 (F := Ideal) a, val_main_v117 (F := Ideal) a]

/-- The heads' target halves. -/
def dstOf : Fin 4 → FVec Ideal S64 .f32 :=
  ![val_main_v10 (F := Ideal) a, val_main_v47 (F := Ideal) a, val_main_v84 (F := Ideal) a, val_main_v121 (F := Ideal) a]

/-- The heads' results as the program has them. -/
def headOf : Fin 4 → FVec Ideal S4x512x64 .f32 :=
  ![val_main_v36 (F := Ideal) h adj W a, val_main_v73 (F := Ideal) h adj W a, val_main_v110 (F := Ideal) h adj W a,
    val_main_v147 (F := Ideal) h adj W a]

/-- Each is the one head term. -/
theorem headOf_eq (hd : Fin 4) : headOf h adj W a hd = head h adj (weightOf W hd) (srcOf a hd) (dstOf a hd) := by
  fin_cases hd <;> rfl

/-- A head's weights are its matrix. -/
theorem weightOf_apply (hd : Fin 4) (k : Fin 256) (d : Fin 64) : weightOf W hd (ix2 k d) = W (ix3 hd k d) := by
  fin_cases hd
  · pointwise [weightOf, val_main_v1, val_main_v0]
  · pointwise [weightOf, val_main_v38, val_main_v37]
  · pointwise [weightOf, val_main_v75, val_main_v74]
  · pointwise [weightOf, val_main_v112, val_main_v111]

/-- A head's source half is the first half of its attention vector. -/
theorem srcOf_apply (hd : Fin 4) (k : Fin 64) : srcOf a hd (ix1 k) = a (ix3 hd (place 0 k) 0) := by
  fin_cases hd
  · pointwise [srcOf, place, val_main_v6, val_main_v5, val_main_v4, val_main_v3]
  · pointwise [srcOf, place, val_main_v43, val_main_v42, val_main_v41, val_main_v40]
  · pointwise [srcOf, place, val_main_v80, val_main_v79, val_main_v78, val_main_v77]
  · pointwise [srcOf, place, val_main_v117, val_main_v116, val_main_v115, val_main_v114]

/-- A head's target half is the second half of its attention vector. -/
theorem dstOf_apply (hd : Fin 4) (k : Fin 64) : dstOf a hd (ix1 k) = a (ix3 hd (place 1 k) 0) := by
  fin_cases hd
  · pointwise [dstOf, place, val_main_v10, val_main_v9, val_main_v8, val_main_v7]
  · pointwise [dstOf, place, val_main_v47, val_main_v46, val_main_v45, val_main_v44]
  · pointwise [dstOf, place, val_main_v84, val_main_v83, val_main_v82, val_main_v81]
  · pointwise [dstOf, place, val_main_v121, val_main_v120, val_main_v119, val_main_v118]

/-- Four heads side by side, read in head `hd`'s columns. -/
theorem beside_apply (f : Fin 4 → FVec Ideal S4x512x64 .f32) (hc) (b : Fin 4) (i : Fin 512) (hd : Fin 4) (d : Fin 64) :
    concatenate (α := EReal) S4x512x256 2 [⟨S4x512x64, f 0⟩, ⟨S4x512x64, f 1⟩, ⟨S4x512x64, f 2⟩, ⟨S4x512x64, f 3⟩] hc
      (ix3 b i (col hd d)) = f hd (ix3 b i d) := by
  fin_cases hd <;> pointwise [col]
  · rw [dif_neg (by omega), dif_neg (by omega), dif_pos (by omega)]
    congr 2; exact Fin.ext (by dsimp only; omega)
  · rw [dif_neg (by omega), dif_neg (by omega), dif_neg (by omega)]
    congr 2; exact Fin.ext (by dsimp only; omega)

/-- The reference's result at batch element `b`, row `i`, head `hd`'s column `d`. -/
theorem result_apply (b : Fin 4) (i : Fin 512) (hd : Fin 4) (d : Fin 64) :
    val_main_v148 (F := Ideal) h adj W a (ix3 b i (col hd d))
      = specR (fun b i k => h (ix3 b i k)) (fun b i j => adj (ix3 b i j)) (fun hd k d => W (ix3 hd k d))
          (fun hd o k => a (ix3 hd (place o k) 0)) b i hd d := by
  refine (show _ = headOf h adj W a hd (ix3 b i d) from beside_apply (headOf h adj W a) _ b i hd d).trans ?_
  rw [headOf_eq, head, out_apply]
  simp only [prod_apply, feats_apply, weightOf_apply, srcOf_apply, dstOf_apply]
  rfl

end Gat.ReferenceArray

end
-- ==== Proof.lean ====
/-
  The claims about graph attention over the 51 best neighbours: the kernel, its ideal program and the plain reference run
  without fault and leave their arguments and the semaphores as they were, the ideal program is the kernel over the
  extended reals, and kernel and reference compute the same array there.

  The mathematics is in the modules: Proof/Order.lean (ranks and the largest places of a sort), Proof/Row.lean (one attention
  row, both ways), Proof/Spec.lean (the whole function, both ways, and that they agree), Proof/KernelHead.lean to
  Proof/KernelArray.lean (the kernel's array is the one), Proof/ReferenceHead.lean to Proof/ReferenceArray.lean (the
  reference's is the other). This file puts them together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelArray
public import proofs.«01_k».proof.Proof.ReferenceArray
public import Idealize.ShloMosaic.Adequacy
public import Idealize.ShloMosaic.Init

@[expose] public section

noncomputable section

namespace Cert.Proof

open Idealize.ShloMosaic Idealize.SL.Sem Idealize.ShloMosaic.StableHlo

/-- The reference runs without fault and leaves its arguments and the semaphores as they were. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same arguments the kernel's array is the reference's. -/
theorem same_array
    (m : (ℓ : Loc Cert.KernelIdeal.nD Cert.KernelIdeal.τ Cert.KernelIdeal.sig) → Buf (Elt Ideal) ℓ)
    (c : Dev Cert.KernelIdeal.nD)
    (h : FVec Ideal Cert.ReferenceIdeal.S4x512x256 .f32) (adj : FVec Ideal Cert.ReferenceIdeal.S4x512x512 .f32)
    (W : FVec Ideal Cert.ReferenceIdeal.S4x256x64 .f32) (a : FVec Ideal Cert.ReferenceIdeal.S4x128x1 .f32)
    (eh : h = m ((c.tc : Thread Cert.KernelIdeal.nD Cert.KernelIdeal.τ).loc Cert.KernelIdeal.main_arg0))
    (eadj : adj = m ((c.tc : Thread Cert.KernelIdeal.nD Cert.KernelIdeal.τ).loc Cert.KernelIdeal.main_arg1))
    (eW : W = m ((c.tc : Thread Cert.KernelIdeal.nD Cert.KernelIdeal.τ).loc Cert.KernelIdeal.main_arg2))
    (ea : a = m ((c.tc : Thread Cert.KernelIdeal.nD Cert.KernelIdeal.τ).loc Cert.KernelIdeal.main_arg3)) :
    Cert.ReferenceIdeal.Read.val_main_v148 (F := Ideal) h adj W a
      = (Cert.KernelIdeal.Gen.dats m 0 c).arrAt 7 Cert.KernelIdeal.cfg0.N := by
  subst eh eadj eW ea
  funext p
  obtain ⟨b, i, k, rfl⟩ : ∃ (b : Fin 4) (i : Fin 512) (k : Fin 256), p = ix3 b i k := ⟨p 0, p 1, p 2, eq_ix3 p⟩
  obtain ⟨hd, d, rfl⟩ := Gat.exists_col k
  refine (Gat.ReferenceArray.result_apply _ _ _ _ b i hd d).trans ?_
  refine Eq.trans ?_ (Gat.KernelArray.result_apply m c b i hd d).symm
  rw [Gat.specK_eq_specR]
  rfl

/-- Over the extended reals the kernel and the reference end with the same array, and keep their arguments. -/
theorem same : Cert.algebraic_KernelIdeal_ReferenceIdeal (hKernelIdeal := Cert.KernelIdeal.Gen.facts)
    (hReferenceIdeal := Cert.ReferenceIdeal.Gen.facts) := by
  intro m ρ m' ρ' _ hargs
  refine ⟨fun c => (Cert.KernelIdeal.Gen.dats m 0 c).arrAt 7 Cert.KernelIdeal.cfg0.N,
    Cert.KernelIdeal.Value.run_blocks m ρ, ?_⟩
  refine (θ_run Cert.ReferenceIdeal.defs _ _).mono (fun r h c => ⟨?_, (h c).2⟩)
    (Cert.ReferenceIdeal.Value.run (F := Ideal) m' ρ')
  obtain ⟨h0, h1, h2, h3⟩ := hargs c
  refine ((h c).1.trans (Cert.ReferenceIdeal.Read.val_main_v148_eq (launchContents m' c))).trans ?_
  exact same_array m c _ _ _ _ h0 h1 h2 h3

/-- The certificate: the three frames, that the ideal program is the kernel, and the equation. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, same⟩

end Cert.Proof

end
